-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v102) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S16x4x4096x128 : Shape := ⟨4, ![16, 4, 4096, 128]⟩
abbrev S16x4x128x128 : Shape := ⟨4, ![16, 4, 128, 128]⟩
abbrev S4 : Shape := ⟨1, ![4]⟩
abbrev S_ : Shape := ⟨0, ![]⟩

class Facts : Prop where
  bitsLt_bf16_f32 : FTy.bits .bf16 < FTy.bits .f32
  bcast_S_S16x4x4096x128 : S_.BroadcastsInDim S16x4x4096x128 (![] : Fin 0 → Fin S16x4x4096x128.rank)
  reducesTo_S16x4x4096x128_S_d0_1_2_3 : S16x4x4096x128.ReducesTo [0, 1, 2, 3] S_
  h_S_ : 0 < S_.numel

variable [Facts]

def fn {F : FTy → Type} [FloatOps F] (main_arg0 : FVec F S16x4x4096x128 .bf16) (main_arg1 : FVec F S16x4x4096x128 .bf16) (main_arg2 : FVec F S16x4x4096x128 .bf16) (main_arg3 : FVec F S16x4x4096x128 .bf16) (main_arg4 : FVec F S16x4x128x128 .f32) (main_arg5 : FVec F S16x4x128x128 .f32) (main_arg6 : FVec F S4 .f32) (main_arg7 : FVec F S4 .f32) : IVec S_ 1 :=
  let main_v0 : FVec F S16x4x4096x128 .f32 := (extf .f32 · bitsLt_bf16_f32) main_arg0
  let main_v1 : FVec F S16x4x4096x128 .f32 := Host.absf main_v0
  let main_cst : FVec F S_ .f32 := constant S_ .f32 0x7F800000#32
  let main_v2 : FVec F S16x4x4096x128 .f32 := broadcastInDim S16x4x4096x128 ![] bcast_S_S16x4x4096x128 main_cst
  let main_v3 : IVec S16x4x4096x128 1 := cmpf .olt main_v1 main_v2
  let main_c : IVec S_ 1 := constantI S_ 1 1#1
  let main_v4 : IVec S_ 1 := (fun x v => Host.reduce IntOp.andi x v reducesTo_S16x4x4096x128_S_d0_1_2_3 h_S_) main_v3 main_c
  let main_v5 : FVec F S16x4x4096x128 .f32 := (extf .f32 · bitsLt_bf16_f32) main_arg1
  let main_v6 : FVec F S16x4x4096x128 .f32 := Host.absf main_v5
  let main_cst_0 : FVec F S_ .f32 := constant S_ .f32 0x7F800000#32
  let main_v7 : FVec F S16x4x4096x128 .f32 := broadcastInDim S16x4x4096x128 ![] bcast_S_S16x4x4096x128 main_cst_0
  let main_v8 : IVec S16x4x4096x128 1 := cmpf .olt main_v6 main_v7
  let main_c_1 : IVec S_ 1 := constantI S_ 1 1#1
  let main_v9 : IVec S_ 1 := (fun x v => Host.reduce IntOp.andi x v reducesTo_S16x4x4096x128_S_d0_1_2_3 h_S_) main_v8 main_c_1
  let main_v10 : IVec S_ 1 := andi main_v4 main_v9
  let main_v11 : FVec F S16x4x4096x128 .f32 := (extf .f32 · bitsLt_bf16_f32) main_arg2
  let main_v12 : FVec F S16x4x4096x128 .f32 := Host.absf main_v11
  let main_cst_2 : FVec F S_ .f32 := constant S_ .f32 0x7F800000#32
  let main_v13 : FVec F S16x4x4096x128 .f32 := broadcastInDim S16x4x4096x128 ![] bcast_S_S16x4x4096x128 main_cst_2
  let main_v14 : IVec S16x4x4096x128 1 := cmpf .olt main_v12 main_v13
  let main_c_3 : IVec S_ 1 := constantI S_ 1 1#1
  let main_v15 : IVec S_ 1 := (fun x v => Host.reduce IntOp.andi x v reducesTo_S16x4x4096x128_S_d0_1_2_3 h_S_) main_v14 main_c_3
  let main_v16 : IVec S_ 1 := andi main_v10 main_v15
  main_v16
-- ==== Kernel.lean ====
abbrev S16x4x4096x128 : Shape := ⟨4, ![16, 4, 4096, 128]⟩
abbrev S16x4x128x128 : Shape := ⟨4, ![16, 4, 128, 128]⟩
abbrev S4 : Shape := ⟨1, ![4]⟩
abbrev S4x1 : Shape := ⟨2, ![4, 1]⟩
abbrev S4x128 : Shape := ⟨2, ![4, 128]⟩
abbrev S1x1x4096x128 : Shape := ⟨4, ![1, 1, 4096, 128]⟩
abbrev S1x1x128x128 : Shape := ⟨4, ![1, 1, 128, 128]⟩
abbrev S16x128x128 : Shape := ⟨3, ![16, 128, 128]⟩
abbrev S1x128 : Shape := ⟨2, ![1, 128]⟩
abbrev S256x128 : Shape := ⟨2, ![256, 128]⟩
abbrev S256x256 : Shape := ⟨2, ![256, 256]⟩
abbrev S1x256 : Shape := ⟨2, ![1, 256]⟩
abbrev S1x1x256x128 : Shape := ⟨4, ![1, 1, 256, 128]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩

abbrev nBuf : Space → Nat
  | .hbm => 13
  | .vmem => 20
  | .smem => 0
  | _ => 0

abbrev bufTy : (tb : Table) → Fin (tcTables nBuf tb) → BufTy
  | .hbm, ⟨0, _⟩ => ⟨S16x4x4096x128, .bf16⟩
  | .hbm, ⟨1, _⟩ => ⟨S16x4x4096x128, .bf16⟩
  | .hbm, ⟨2, _⟩ => ⟨S16x4x4096x128, .bf16⟩
  | .hbm, ⟨3, _⟩ => ⟨S16x4x4096x128, .bf16⟩
  | .hbm, ⟨4, _⟩ => ⟨S16x4x128x128, .f32⟩
  | .hbm, ⟨5, _⟩ => ⟨S16x4x128x128, .f32⟩
  | .hbm, ⟨6, _⟩ => ⟨S4, .f32⟩
  | .hbm, ⟨7, _⟩ => ⟨S4, .f32⟩
  | .hbm, ⟨8, _⟩ => ⟨S4x1, .f32⟩
  | .hbm, ⟨9, _⟩ => ⟨S4x128, .f32⟩
  | .hbm, ⟨10, _⟩ => ⟨S4x1, .f32⟩
  | .hbm, ⟨11, _⟩ => ⟨S4x128, .f32⟩
  | .hbm, ⟨12, _⟩ => ⟨S16x4x4096x128, .bf16⟩
  | .local _ .vmem, ⟨0, _⟩ => ⟨S1x1x4096x128, .bf16⟩
  | .local _ .vmem, ⟨1, _⟩ => ⟨S1x1x4096x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x4096x128, .bf16⟩
  | .local _ .vmem, ⟨7, _⟩ => ⟨S1x1x4096x128, .bf16⟩
  | .local _ .vmem, ⟨8, _⟩ => ⟨S1x1x128x128, .f32⟩
  | .local _ .vmem, ⟨9, _⟩ => ⟨S1x1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S4x128, .f32⟩
  | .local _ .vmem, ⟨13, _⟩ => ⟨S4x128, .f32⟩
  | .local _ .vmem, ⟨14, _⟩ => ⟨S1x1x4096x128, .bf16⟩
  | .local _ .vmem, ⟨15, _⟩ => ⟨S1x1x4096x128, .bf16⟩
  | .local _ .vmem, ⟨16, _⟩ => ⟨S16x128x128, .f32⟩
  | .local _ .vmem, ⟨17, _⟩ => ⟨S16x128x128, .f32⟩
  | .local _ .vmem, ⟨18, _⟩ => ⟨S16x128x128, .bf16⟩
  | .local _ .vmem, ⟨19, _⟩ => ⟨S16x128x128, .bf16⟩
  | _, _ => ⟨S16x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let arg1 : BitVec 32 := BitVec.ofNat 32 (i 1).val
  let v0 : Index := Scalar.indexCast arg1
  let c0 : Index := 0#32
  ![v0.toNat, 0]
def k0_mult1 : BitVec 32 :=
  let c0_i32 : BitVec 32 := 0#32
  let c256_i32 : BitVec 32 := 256#32
  let v68 : BitVec 32 := Scalar.muli c0_i32 c256_i32
  v68
def k0_off2 (c0_i32 : BitVec 32) : Fin 4 → Nat :=
  let c0_13 : Index := 0#32
  let c0_14 : Index := 0#32
  let c256_i32 : BitVec 32 := 256#32
  let v68 : BitVec 32 := Scalar.muli c0_i32 c256_i32
  let v69 : BitVec 32 := v68
  let v70 : Index := Scalar.indexCast v69
  let c0_15 : Index := 0#32
  ![0, 0, v70.toNat, 0]
def k0_mult2 : BitVec 32 :=
  let c1_i32 : BitVec 32 := 1#32
  let c256_i32_25 : BitVec 32 := 256#32
  let v91 : BitVec 32 := Scalar.muli c1_i32 c256_i32_25
  v91
def k0_mult3 : BitVec 32 :=
  let c2_i32 : BitVec 32 := 2#32
  let c256_i32_38 : BitVec 32 := 256#32
  let v114 : BitVec 32 := Scalar.muli c2_i32 c256_i32_38
  v114
def k0_mult4 : BitVec 32 :=
  let c3_i32 : BitVec 32 := 3#32
  let c256_i32_51 : BitVec 32 := 256#32
  let v137 : BitVec 32 := Scalar.muli c3_i32 c256_i32_51
  v137
def k0_mult5 : BitVec 32 :=
  let c4_i32 : BitVec 32 := 4#32
  let c256_i32_64 : BitVec 32 := 256#32
  let v160 : BitVec 32 := Scalar.muli c4_i32 c256_i32_64
  v160
def k0_mult6 : BitVec 32 :=
  let c5_i32 : BitVec 32 := 5#32
  let c256_i32_77 : BitVec 32 := 256#32
  let v183 : BitVec 32 := Scalar.muli c5_i32 c256_i32_77
  v183
def k0_mult7 : BitVec 32 :=
  let c6_i32 : BitVec 32 := 6#32
  let c256_i32_90 : BitVec 32 := 256#32
  let v206 : BitVec 32 := Scalar.muli c6_i32 c256_i32_90
  v206
def k0_mult8 : BitVec 32 :=
  let c7_i32 : BitVec 32 := 7#32
  let c256_i32_103 : BitVec 32 := 256#32
  let v229 : BitVec 32 := Scalar.muli c7_i32 c256_i32_103
  v229
def k0_mult9 : BitVec 32 :=
  let c8_i32 : BitVec 32 := 8#32
  let c256_i32_116 : BitVec 32 := 256#32
  let v252 : BitVec 32 := Scalar.muli c8_i32 c256_i32_116
  v252
def k0_mult10 : BitVec 32 :=
  let c9_i32 : BitVec 32 := 9#32
  let c256_i32_129 : BitVec 32 := 256#32
  let v275 : BitVec 32 := Scalar.muli c9_i32 c256_i32_129
  v275
def k0_mult11 : BitVec 32 :=
  let c10_i32 : BitVec 32 := 10#32
  let c256_i32_142 : BitVec 32 := 256#32
  let v298 : BitVec 32 := Scalar.muli c10_i32 c256_i32_142
  v298
def k0_mult12 : BitVec 32 :=
  let c11_i32 : BitVec 32 := 11#32
  let c256_i32_155 : BitVec 32 := 256#32
  let v321 : BitVec 32 := Scalar.muli c11_i32 c256_i32_155
  v321
def k0_mult13 : BitVec 32 :=
  let c12_i32 : BitVec 32 := 12#32
  let c256_i32_168 : BitVec 32 := 256#32
  let v344 : BitVec 32 := Scalar.muli c12_i32 c256_i32_168
  v344
def k0_mult14 : BitVec 32 :=
  let c13_i32 : BitVec 32 := 13#32
  let c256_i32_181 : BitVec 32 := 256#32
  let v367 : BitVec 32 := Scalar.muli c13_i32 c256_i32_181
  v367
def k0_mult15 : BitVec 32 :=
  let c14_i32 : BitVec 32 := 14#32
  let c256_i32_194 : BitVec 32 := 256#32
  let v390 : BitVec 32 := Scalar.muli c14_i32 c256_i32_194
  v390
def k0_mult16 : BitVec 32 :=
  let c15_i32 : BitVec 32 := 15#32
  let c256_i32_207 : BitVec 32 := 256#32
  let v413 : BitVec 32 := Scalar.muli c15_i32 c256_i32_207
  v413
@[reducible] def k0_t1_loop : Scf.Loop 32 :=
  let c0_i32_224 : BitVec 32 := 0#32
  let c16_i32_225 : BitVec 32 := 16#32
  let v438 : BitVec 32 := Scalar.addi c0_i32_224 c16_i32_225
  let c1_i32_226 : BitVec 32 := 1#32
  ⟨c0_i32_224, v438, c1_i32_226⟩
def k0_off3 (k0_t1 : Fin k0_t1_loop.trips) : Fin 3 → Nat :=
  let c0_i32_224 : BitVec 32 := 0#32
  let c1_i32_226 : BitVec 32 := 1#32
  let arg15 : BitVec 32 := Scf.iv c0_i32_224 c1_i32_226 k0_t1
  let v1341 : Index := Scalar.indexCast arg15
  let c0_717 : Index := 0#32
  let c0_718 : Index := 0#32
  ![v1341.toNat, 0, 0]
@[reducible] def k0_t2_loop : Scf.Loop 32 :=
  let c0_i32_232 : BitVec 32 := 0#32
  let c16_i32_233 : BitVec 32 := 16#32
  let v442 : BitVec 32 := Scalar.addi c0_i32_232 c16_i32_233
  let c1_i32_234 : BitVec 32 := 1#32
  ⟨c0_i32_232, v442, c1_i32_234⟩
def k0_off4 (k0_t2 : Fin k0_t2_loop.trips) : Fin 3 → Nat :=
  let c15_i32_717 : BitVec 32 := 15#32
  let c0_i32_232 : BitVec 32 := 0#32
  let c1_i32_234 : BitVec 32 := 1#32
  let arg15 : BitVec 32 := Scf.iv c0_i32_232 c1_i32_234 k0_t2
  let v1340 : BitVec 32 := Scalar.subi c15_i32_717 arg15
  let v1342 : Index := Scalar.indexCast v1340
  let c0_718 : Index := 0#32
  let c0_719 : Index := 0#32
  ![v1342.toNat, 0, 0]
def k0_mult17 : BitVec 32 :=
  let c0_i32_236 : BitVec 32 := 0#32
  let c256_i32_237 : BitVec 32 := 256#32
  let v444 : BitVec 32 := Scalar.muli c0_i32_236 c256_i32_237
  v444
def k0_mult18 : BitVec 32 :=
  let c1_i32_266 : BitVec 32 := 1#32
  let c256_i32_267 : BitVec 32 := 256#32
  let v500 : BitVec 32 := Scalar.muli c1_i32_266 c256_i32_267
  v500
def k0_mult19 : BitVec 32 :=
  let c2_i32_296 : BitVec 32 := 2#32
  let c256_i32_297 : BitVec 32 := 256#32
  let v556 : BitVec 32 := Scalar.muli c2_i32_296 c256_i32_297
  v556
def k0_mult20 : BitVec 32 :=
  let c3_i32_326 : BitVec 32 := 3#32
  let c256_i32_327 : BitVec 32 := 256#32
  let v612 : BitVec 32 := Scalar.muli c3_i32_326 c256_i32_327
  v612
def k0_mult21 : BitVec 32 :=
  let c4_i32_356 : BitVec 32 := 4#32
  let c256_i32_357 : BitVec 32 := 256#32
  let v668 : BitVec 32 := Scalar.muli c4_i32_356 c256_i32_357
  v668
def k0_mult22 : BitVec 32 :=
  let c5_i32_386 : BitVec 32 := 5#32
  let c256_i32_387 : BitVec 32 := 256#32
  let v724 : BitVec 32 := Scalar.muli c5_i32_386 c256_i32_387
  v724
def k0_mult23 : BitVec 32 :=
  let c6_i32_416 : BitVec 32 := 6#32
  let c256_i32_417 : BitVec 32 := 256#32
  let v780 : BitVec 32 := Scalar.muli c6_i32_416 c256_i32_417
  v780
def k0_mult24 : BitVec 32 :=
  let c7_i32_446 : BitVec 32 := 7#32
  let c256_i32_447 : BitVec 32 := 256#32
  let v836 : BitVec 32 := Scalar.muli c7_i32_446 c256_i32_447
  v836
def k0_mult25 : BitVec 32 :=
  let c8_i32_476 : BitVec 32 := 8#32
  let c256_i32_477 : BitVec 32 := 256#32
  let v892 : BitVec 32 := Scalar.muli c8_i32_476 c256_i32_477
  v892
def k0_mult26 : BitVec 32 :=
  let c9_i32_506 : BitVec 32 := 9#32
  let c256_i32_507 : BitVec 32 := 256#32
  let v948 : BitVec 32 := Scalar.muli c9_i32_506 c256_i32_507
  v948
def k0_mult27 : BitVec 32 :=
  let c10_i32_536 : BitVec 32 := 10#32
  let c256_i32_537 : BitVec 32 := 256#32
  let v1004 : BitVec 32 := Scalar.muli c10_i32_536 c256_i32_537
  v1004
def k0_mult28 : BitVec 32 :=
  let c11_i32_566 : BitVec 32 := 11#32
  let c256_i32_567 : BitVec 32 := 256#32
  let v1060 : BitVec 32 := Scalar.muli c11_i32_566 c256_i32_567
  v1060
def k0_mult29 : BitVec 32 :=
  let c12_i32_596 : BitVec 32 := 12#32
  let c256_i32_597 : BitVec 32 := 256#32
  let v1116 : BitVec 32 := Scalar.muli c12_i32_596 c256_i32_597
  v1116
def k0_mult30 : BitVec 32 :=
  let c13_i32_626 : BitVec 32 := 13#32
  let c256_i32_627 : BitVec 32 := 256#32
  let v1172 : BitVec 32 := Scalar.muli c13_i32_626 c256_i32_627
  v1172
def k0_mult31 : BitVec 32 :=
  let c14_i32_656 : BitVec 32 := 14#32
  let c256_i32_657 : BitVec 32 := 256#32
  let v1228 : BitVec 32 := Scalar.muli c14_i32_656 c256_i32_657
  v1228
def k0_mult32 : BitVec 32 :=
  let c15_i32_686 : BitVec 32 := 15#32
  let c256_i32_687 : BitVec 32 := 256#32
  let v1284 : BitVec 32 := Scalar.muli c15_i32_686 c256_i32_687
  v1284
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16x4x4096x128 : Shape := ⟨4, ![16, 4, 4096, 128]⟩
abbrev S16x4x128x128 : Shape := ⟨4, ![16, 4, 128, 128]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S16x4x32x128x128 : Shape := ⟨5, ![16, 4, 32, 128, 128]⟩
abbrev S4x1x128x128 : Shape := ⟨4, ![4, 1, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S32x16x4x128x128 : Shape := ⟨5, ![32, 16, 4, 128, 128]⟩
abbrev S1x4x1x1 : Shape := ⟨4, ![1, 4, 1, 1]⟩
abbrev S1x16x4x128x128 : Shape := ⟨5, ![1, 16, 4, 128, 128]⟩
abbrev S16x4x4096 : Shape := ⟨3, ![16, 4, 4096]⟩
abbrev S16x4x4096x1 : Shape := ⟨4, ![16, 4, 4096, 1]⟩

abbrev nBuf : Space → Nat
  | .hbm => 257
  | .vmem => 0
  | .smem => 0
  | _ => 0

abbrev hbmTy0_0 (i : Nat) : BufTy := match i % 128 with
  | 0 => ⟨S16x4x4096x128, .bf16⟩
  | 1 => ⟨S16x4x4096x128, .bf16⟩
  | 2 => ⟨S16x4x4096x128, .bf16⟩
  | 3 => ⟨S16x4x4096x128, .bf16⟩
  | 4 => ⟨S16x4x128x128, .f32⟩
  | 5 => ⟨S16x4x128x128, .f32⟩
  | 6 => ⟨S4, .f32⟩
  | 7 => ⟨S4, .f32⟩
  | 8 => ⟨S16x4x4096x128, .f32⟩
  | 9 => ⟨S16x4x4096x128, .f32⟩
  | 10 => ⟨S16x4x4096x128, .f32⟩
  | 11 => ⟨S16x4x4096x128, .f32⟩
  | 12 => ⟨S4, .f32⟩
  | 13 => ⟨S_, .f32⟩
  | 14 => ⟨S4, .f32⟩
  | 15 => ⟨S4, .f32⟩
  | 16 => ⟨S4, .f32⟩
  | 17 => ⟨S4, .f32⟩
  | 18 => ⟨S4, .i1⟩
  | 19 => ⟨S4, .f32⟩
  | 20 => ⟨S4, .f32⟩
  | 21 => ⟨S4, .f32⟩
  | 22 => ⟨S4, .f32⟩
  | 23 => ⟨S4, .f32⟩
  | 24 => ⟨S4, .f32⟩
  | 25 => ⟨S4, .f32⟩
  | 26 => ⟨S4, .f32⟩
  | 27 => ⟨S4, .f32⟩
  | 28 => ⟨S128, .i32⟩
  | 29 => ⟨S128, .f32⟩
  | 30 => ⟨S128x1, .f32⟩
  | 31 => ⟨S1x128, .f32⟩
  | 32 => ⟨S128x128, .f32⟩
  | 33 => ⟨S128x128, .f32⟩
  | 34 => ⟨S128x128, .f32⟩
  | 35 => ⟨S_, .f32⟩
  | 36 => ⟨S128x128, .f32⟩
  | 37 => ⟨S128x128, .i1⟩
  | 38 => ⟨S1x128x128, .i1⟩
  | 39 => ⟨S_, .f32⟩
  | 40 => ⟨S_, .f32⟩
  | 41 => ⟨S128x128, .f32⟩
  | 42 => ⟨S128x128, .f32⟩
  | 43 => ⟨S1x128x128, .f32⟩
  | 44 => ⟨S4x1x1, .f32⟩
  | 45 => ⟨S4x128x128, .f32⟩
  | 46 => ⟨S4x128x128, .f32⟩
  | 47 => ⟨S4x128x128, .f32⟩
  | 48 => ⟨S4x128x128, .f32⟩
  | 49 => ⟨S_, .f32⟩
  | 50 => ⟨S_, .f32⟩
  | 51 => ⟨S4x128x128, .i1⟩
  | 52 => ⟨S4x128x128, .f32⟩
  | 53 => ⟨S4x128x128, .f32⟩
  | 54 => ⟨S16x4x32x128x128, .f32⟩
  | 55 => ⟨S16x4x32x128x128, .f32⟩
  | 56 => ⟨S16x4x32x128x128, .f32⟩
  | 57 => ⟨S16x4x32x128x128, .f32⟩
  | 58 => ⟨S4x1x128x128, .f32⟩
  | 59 => ⟨S1x4x1x128x128, .f32⟩
  | 60 => ⟨S16x4x32x128x128, .f32⟩
  | 61 => ⟨S16x4x32x128x128, .f32⟩
  | 62 => ⟨S16x4x32x128x128, .f32⟩
  | 63 => ⟨S_, .f32⟩
  | 64 => ⟨S128, .f32⟩
  | 65 => ⟨S128, .f32⟩
  | 66 => ⟨S1x128, .f32⟩
  | 67 => ⟨S4x1, .f32⟩
  | 68 => ⟨S4x128, .f32⟩
  | 69 => ⟨S4x128, .f32⟩
  | 70 => ⟨S4x128, .f32⟩
  | 71 => ⟨S4x128, .f32⟩
  | 72 => ⟨S_, .f32⟩
  | 73 => ⟨S128, .f32⟩
  | 74 => ⟨S128, .f32⟩
  | 75 => ⟨S1x128, .f32⟩
  | 76 => ⟨S4x1, .f32⟩
  | 77 => ⟨S4x128, .f32⟩
  | 78 => ⟨S4x128, .f32⟩
  | 79 => ⟨S4x128, .f32⟩
  | 80 => ⟨S4x128, .f32⟩
  | 81 => ⟨S1x4x1x128x1, .f32⟩
  | 82 => ⟨S16x4x32x128x128, .f32⟩
  | 83 => ⟨S16x4x32x128x128, .f32⟩
  | 84 => ⟨S32x16x4x128x128, .f32⟩
  | 85 => ⟨S_, .f32⟩
  | 86 => ⟨S4, .f32⟩
  | 87 => ⟨S4, .f32⟩
  | 88 => ⟨S4, .f32⟩
  | 89 => ⟨S1x4x1x1, .f32⟩
  | 90 => ⟨S1x4x1x128x1, .f32⟩
  | 91 => ⟨S16x4x32x128x128, .f32⟩
  | 92 => ⟨S16x4x32x128x128, .f32⟩
  | 93 => ⟨S16x4x4096x128, .f32⟩
  | 94 => ⟨S16x4x4096x128, .f32⟩
  | 95 => ⟨S16x4x4096x128, .f32⟩
  | 96 => ⟨S4, .f32⟩
  | 97 => ⟨S_, .f32⟩
  | 98 => ⟨S4, .f32⟩
  | 99 => ⟨S4, .f32⟩
  | 100 => ⟨S4, .f32⟩
  | 101 => ⟨S4, .f32⟩
  | 102 => ⟨S4, .i1⟩
  | 103 => ⟨S4, .f32⟩
  | 104 => ⟨S4, .f32⟩
  | 105 => ⟨S4, .f32⟩
  | 106 => ⟨S4, .f32⟩
  | 107 => ⟨S4, .f32⟩
  | 108 => ⟨S4, .f32⟩
  | 109 => ⟨S4, .f32⟩
  | 110 => ⟨S4, .f32⟩
  | 111 => ⟨S4, .f32⟩
  | 112 => ⟨S128, .i32⟩
  | 113 => ⟨S128, .f32⟩
  | 114 => ⟨S128x1, .f32⟩
  | 115 => ⟨S1x128, .f32⟩
  | 116 => ⟨S128x128, .f32⟩
  | 117 => ⟨S128x128, .f32⟩
  | 118 => ⟨S128x128, .f32⟩
  | 119 => ⟨S_, .f32⟩
  | 120 => ⟨S128x128, .f32⟩
  | 121 => ⟨S128x128, .i1⟩
  | 122 => ⟨S1x128x128, .i1⟩
  | 123 => ⟨S_, .f32⟩
  | 124 => ⟨S_, .f32⟩
  | 125 => ⟨S128x128, .f32⟩
  | 126 => ⟨S128x128, .f32⟩
  | 127 => ⟨S1x128x128, .f32⟩
  | _ => ⟨S16x4x4096x128, .bf16⟩

abbrev hbmTy0_1 (i : Nat) : BufTy := match i % 128 with
  | 0 => ⟨S4x1x1, .f32⟩
  | 1 => ⟨S4x128x128, .f32⟩
  | 2 => ⟨S4x128x128, .f32⟩
  | 3 => ⟨S4x128x128, .f32⟩
  | 4 => ⟨S4x128x128, .f32⟩
  | 5 => ⟨S_, .f32⟩
  | 6 => ⟨S_, .f32⟩
  | 7 => ⟨S4x128x128, .i1⟩
  | 8 => ⟨S4x128x128, .f32⟩
  | 9 => ⟨S4x128x128, .f32⟩
  | 10 => ⟨S16x4x32x128x128, .f32⟩
  | 11 => ⟨S16x4x32x128x128, .f32⟩
  | 12 => ⟨S16x4x32x128x128, .f32⟩
  | 13 => ⟨S16x4x32x128x128, .f32⟩
  | 14 => ⟨S4x1x128x128, .f32⟩
  | 15 => ⟨S1x4x1x128x128, .f32⟩
  | 16 => ⟨S16x4x32x128x128, .f32⟩
  | 17 => ⟨S16x4x32x128x128, .f32⟩
  | 18 => ⟨S16x4x32x128x128, .f32⟩
  | 19 => ⟨S_, .f32⟩
  | 20 => ⟨S128, .f32⟩
  | 21 => ⟨S128, .f32⟩
  | 22 => ⟨S1x128, .f32⟩
  | 23 => ⟨S4x1, .f32⟩
  | 24 => ⟨S4x128, .f32⟩
  | 25 => ⟨S4x128, .f32⟩
  | 26 => ⟨S4x128, .f32⟩
  | 27 => ⟨S4x128, .f32⟩
  | 28 => ⟨S_, .f32⟩
  | 29 => ⟨S128, .f32⟩
  | 30 => ⟨S128, .f32⟩
  | 31 => ⟨S1x128, .f32⟩
  | 32 => ⟨S4x1, .f32⟩
  | 33 => ⟨S4x128, .f32⟩
  | 34 => ⟨S4x128, .f32⟩
  | 35 => ⟨S4x128, .f32⟩
  | 36 => ⟨S4x128, .f32⟩
  | 37 => ⟨S1x4x1x128x1, .f32⟩
  | 38 => ⟨S16x4x32x128x128, .f32⟩
  | 39 => ⟨S16x4x32x128x128, .f32⟩
  | 40 => ⟨S32x16x4x128x128, .f32⟩
  | 41 => ⟨S_, .f32⟩
  | 42 => ⟨S4, .f32⟩
  | 43 => ⟨S4, .f32⟩
  | 44 => ⟨S4, .f32⟩
  | 45 => ⟨S1x4x1x1, .f32⟩
  | 46 => ⟨S1x4x1x128x1, .f32⟩
  | 47 => ⟨S16x4x32x128x128, .f32⟩
  | 48 => ⟨S16x4x32x128x128, .f32⟩
  | 49 => ⟨S_, .f32⟩
  | 50 => ⟨S32x16x4x128x128, .f32⟩
  | 51 => ⟨S_, .f32⟩
  | 52 => ⟨S32x16x4x128x128, .f32⟩
  | 53 => ⟨S_, .i32⟩
  | 54 => ⟨S32x16x4x128x128, .f32⟩
  | 55 => ⟨S32x16x4x128x128, .f32⟩
  | 56 => ⟨S1x4x1x1, .f32⟩
  | 57 => ⟨S1x4x1x1, .f32⟩
  | 58 => ⟨S_, .i32⟩
  | 59 => ⟨S16x4x128x128, .f32⟩
  | 60 => ⟨S16x4x128x128, .f32⟩
  | 61 => ⟨S32x16x4x128x128, .f32⟩
  | 62 => ⟨S32x16x4x128x128, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S1x16x4x128x128, .f32⟩
  | 70 => ⟨S16x4x128x128, .f32⟩
  | 71 => ⟨S_, .i32⟩
  | 72 => ⟨S_, .i32⟩
  | 73 => ⟨S_, .i32⟩
  | 74 => ⟨S_, .i32⟩
  | 75 => ⟨S1x16x4x128x128, .f32⟩
  | 76 => ⟨S16x4x128x128, .f32⟩
  | 77 => ⟨S16x4x128x128, .f32⟩
  | 78 => ⟨S16x4x128x128, .f32⟩
  | 79 => ⟨S16x4x128x128, .f32⟩
  | 80 => ⟨S16x4x128x128, .f32⟩
  | 81 => ⟨S16x4x128x128, .f32⟩
  | 82 => ⟨S16x4x128x128, .f32⟩
  | 83 => ⟨S1x16x4x128x128, .f32⟩
  | 84 => ⟨S_, .i32⟩
  | 85 => ⟨S_, .i32⟩
  | 86 => ⟨S_, .i32⟩
  | 87 => ⟨S_, .i32⟩
  | 88 => ⟨S32x16x4x128x128, .f32⟩
  | 89 => ⟨S1x16x4x128x128, .f32⟩
  | 90 => ⟨S_, .i32⟩
  | 91 => ⟨S_, .i32⟩
  | 92 => ⟨S_, .i32⟩
  | 93 => ⟨S_, .i32⟩
  | 94 => ⟨S32x16x4x128x128, .f32⟩
  | 95 => ⟨S_, .i32⟩
  | 96 => ⟨S_, .i32⟩
  | 97 => ⟨S16x4x32x128x128, .f32⟩
  | 98 => ⟨S16x4x32x128x128, .f32⟩
  | 99 => ⟨S16x4x4096x128, .f32⟩
  | 100 => ⟨S16x4x32x128x128, .f32⟩
  | 101 => ⟨S16x4x32x128x128, .f32⟩
  | 102 => ⟨S16x4x4096x128, .f32⟩
  | 103 => ⟨S16x4x4096x128, .f32⟩
  | 104 => ⟨S16x4x4096x128, .f32⟩
  | 105 => ⟨S16x4x4096x128, .f32⟩
  | 106 => ⟨S_, .f32⟩
  | 107 => ⟨S16x4x4096, .f32⟩
  | 108 => ⟨S16x4x4096x1, .f32⟩
  | 109 => ⟨S_, .f32⟩
  | 110 => ⟨S16x4x4096x1, .f32⟩
  | 111 => ⟨S16x4x4096x1, .f32⟩
  | 112 => ⟨S_, .f32⟩
  | 113 => ⟨S16x4x4096x1, .f32⟩
  | 114 => ⟨S16x4x4096x1, .f32⟩
  | 115 => ⟨S16x4x4096x1, .f32⟩
  | 116 => ⟨S16x4x4096x128, .f32⟩
  | 117 => ⟨S16x4x4096x128, .f32⟩
  | 118 => ⟨S16x4x4096x128, .f32⟩
  | 119 => ⟨S16x4x4096x128, .f32⟩
  | 120 => ⟨S_, .f32⟩
  | 121 => ⟨S16x4x4096x128, .f32⟩
  | 122 => ⟨S16x4x4096x128, .f32⟩
  | 123 => ⟨S_, .f32⟩
  | 124 => ⟨S16x4x4096x128, .f32⟩
  | 125 => ⟨S16x4x4096x128, .f32⟩
  | 126 => ⟨S16x4x4096x128, .f32⟩
  | 127 => ⟨S16x4x4096x128, .f32⟩
  | _ => ⟨S16x4x4096x128, .bf16⟩

abbrev hbmTy0_2 (i : Nat) : BufTy := match i % 128 with
  | 0 => ⟨S16x4x4096x128, .bf16⟩
  | _ => ⟨S16x4x4096x128, .bf16⟩

abbrev hbmTy (i : Nat) : BufTy := match i / 128 with
  | 0 => hbmTy0_0 i
  | 1 => hbmTy0_1 i
  | 2 => hbmTy0_2 i
  | _ => ⟨S16x4x4096x128, .bf16⟩

abbrev bufTy : (tb : Table) → Fin (tcTables nBuf tb) → BufTy
  | .hbm, ⟨i, _⟩ => hbmTy i
  | _, _ => ⟨S16x4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_1 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_3 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_4 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call6_v0 : Ref sig .tc := ⟨.hbm, 96, rfl⟩
abbrev main_call6_call0_cst : Ref sig .tc := ⟨.hbm, 97, rfl⟩
abbrev main_call6_call0_v0 : Ref sig .tc := ⟨.hbm, 98, rfl⟩
abbrev main_call6_call0_v1 : Ref sig .tc := ⟨.hbm, 99, rfl⟩
abbrev main_call6_call0_v2 : Ref sig .tc := ⟨.hbm, 100, rfl⟩
abbrev main_call6_call0_v3 : Ref sig .tc := ⟨.hbm, 101, rfl⟩
abbrev main_call6_call0_v4 : Ref sig .tc := ⟨.hbm, 102, rfl⟩
abbrev main_call6_call0_v5 : Ref sig .tc := ⟨.hbm, 103, rfl⟩
abbrev main_call6_call0_v6 : Ref sig .tc := ⟨.hbm, 104, rfl⟩
abbrev main_call6_call0_v7 : Ref sig .tc := ⟨.hbm, 105, rfl⟩
abbrev main_call6_call0_v8 : Ref sig .tc := ⟨.hbm, 106, rfl⟩
abbrev main_call6_call0_v9 : Ref sig .tc := ⟨.hbm, 107, rfl⟩
abbrev main_call6_call0_v10 : Ref sig .tc := ⟨.hbm, 108, rfl⟩
abbrev main_call6_call0_v11 : Ref sig .tc := ⟨.hbm, 109, rfl⟩
abbrev main_call6_v1 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_5 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_6 : Ref sig .tc := ⟨.hbm, 123, rfl⟩
abbrev main_call7_v0 : Ref sig .tc := ⟨.hbm, 124, rfl⟩
abbrev main_call7_v1 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_7 : Ref sig .tc := ⟨.hbm, 133, rfl⟩
abbrev main_call8_v0 : Ref sig .tc := ⟨.hbm, 134, rfl⟩
abbrev main_call8_v1 : Ref sig .tc := ⟨.hbm, 135, rfl⟩
abbrev main_call8_v2 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_8 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_9 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_cst_10 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_cst_11 : Ref sig .tc := ⟨.hbm, 177, rfl⟩
abbrev main_v117 : Ref sig .tc := ⟨.hbm, 178, rfl⟩
abbrev main_cst_12 : Ref sig .tc := ⟨.hbm, 179, rfl⟩
abbrev main_v118 : Ref sig .tc := ⟨.hbm, 180, rfl⟩
abbrev main_c : Ref sig .tc := ⟨.hbm, 181, rfl⟩
abbrev main_v119_0 : Ref sig .tc := ⟨.hbm, 182, rfl⟩
abbrev main_v119_1 : Ref sig .tc := ⟨.hbm, 183, rfl⟩
abbrev main_v119_2 : Ref sig .tc := ⟨.hbm, 184, rfl⟩
abbrev main_v119_3 : Ref sig .tc := ⟨.hbm, 185, rfl⟩
abbrev main_v119_4 : Ref sig .tc := ⟨.hbm, 186, rfl⟩
abbrev main_v119_5 : Ref sig .tc := ⟨.hbm, 187, rfl⟩
abbrev main_v119_6 : Ref sig .tc := ⟨.hbm, 188, rfl⟩
abbrev main_v119_7 : Ref sig .tc := ⟨.hbm, 189, rfl⟩
abbrev main_v119_8 : Ref sig .tc := ⟨.hbm, 190, rfl⟩
abbrev main_while0c_c_24 : Ref sig .tc := ⟨.hbm, 191, rfl⟩
abbrev main_while0c_v141 : Ref sig .tc := ⟨.hbm, 192, rfl⟩
abbrev main_while0b_call9_c : Ref sig .tc := ⟨.hbm, 193, rfl⟩
abbrev main_while0b_call9_c_0 : Ref sig .tc := ⟨.hbm, 194, rfl⟩
abbrev main_while0b_call9_c_1 : Ref sig .tc := ⟨.hbm, 195, rfl⟩
abbrev main_while0b_call9_c_2 : Ref sig .tc := ⟨.hbm, 196, rfl⟩
abbrev main_while0b_call9_v0 : Ref sig .tc := ⟨.hbm, 197, rfl⟩
abbrev main_while0b_v141 : Ref sig .tc := ⟨.hbm, 198, rfl⟩
abbrev main_while0b_call10_c : Ref sig .tc := ⟨.hbm, 199, rfl⟩
abbrev main_while0b_call10_c_0 : Ref sig .tc := ⟨.hbm, 200, rfl⟩
abbrev main_while0b_call10_c_1 : Ref sig .tc := ⟨.hbm, 201, rfl⟩
abbrev main_while0b_call10_c_2 : Ref sig .tc := ⟨.hbm, 202, rfl⟩
abbrev main_while0b_call10_v0 : Ref sig .tc := ⟨.hbm, 203, rfl⟩
abbrev main_while0b_v142 : Ref sig .tc := ⟨.hbm, 204, rfl⟩
abbrev main_while0b_v143 : Ref sig .tc := ⟨.hbm, 205, rfl⟩
abbrev main_while0b_v144 : Ref sig .tc := ⟨.hbm, 206, rfl⟩
abbrev main_while0b_v145 : Ref sig .tc := ⟨.hbm, 207, rfl⟩
abbrev main_while0b_v146 : Ref sig .tc := ⟨.hbm, 208, rfl⟩
abbrev main_while0b_v147 : Ref sig .tc := ⟨.hbm, 209, rfl⟩
abbrev main_while0b_v148 : Ref sig .tc := ⟨.hbm, 210, rfl⟩
abbrev main_while0b_call11_v0 : Ref sig .tc := ⟨.hbm, 211, rfl⟩
abbrev main_while0b_call11_c : Ref sig .tc := ⟨.hbm, 212, rfl⟩
abbrev main_while0b_call11_c_0 : Ref sig .tc := ⟨.hbm, 213, rfl⟩
abbrev main_while0b_call11_c_1 : Ref sig .tc := ⟨.hbm, 214, rfl⟩
abbrev main_while0b_call11_c_2 : Ref sig .tc := ⟨.hbm, 215, rfl⟩
abbrev main_while0b_v149 : Ref sig .tc := ⟨.hbm, 216, rfl⟩
abbrev main_while0b_call12_v0 : Ref sig .tc := ⟨.hbm, 217, rfl⟩
abbrev main_while0b_call12_c : Ref sig .tc := ⟨.hbm, 218, rfl⟩
abbrev main_while0b_call12_c_0 : Ref sig .tc := ⟨.hbm, 219, rfl⟩
abbrev main_while0b_call12_c_1 : Ref sig .tc := ⟨.hbm, 220, rfl⟩
abbrev main_while0b_call12_c_2 : Ref sig .tc := ⟨.hbm, 221, rfl⟩
abbrev main_while0b_v150 : Ref sig .tc := ⟨.hbm, 222, rfl⟩
abbrev main_while0b_c_24 : Ref sig .tc := ⟨.hbm, 223, rfl⟩
abbrev main_while0b_v151 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_cst_13 : Ref sig .tc := ⟨.hbm, 234, rfl⟩
abbrev main_v129 : Ref sig .tc := ⟨.hbm, 235, rfl⟩
abbrev main_v130 : Ref sig .tc := ⟨.hbm, 236, rfl⟩
abbrev main_cst_14 : Ref sig .tc := ⟨.hbm, 237, rfl⟩
abbrev main_v131 : Ref sig .tc := ⟨.hbm, 238, rfl⟩
abbrev main_v132 : Ref sig .tc := ⟨.hbm, 239, rfl⟩
abbrev main_cst_15 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_call14_v0 : Ref sig .tc := ⟨.hbm, 246, rfl⟩
abbrev main_call14_v1 : Ref sig .tc := ⟨.hbm, 247, rfl⟩
abbrev main_call14_cst : Ref sig .tc := ⟨.hbm, 248, rfl⟩
abbrev main_call14_v2 : Ref sig .tc := ⟨.hbm, 249, rfl⟩
abbrev main_call14_v3 : Ref sig .tc := ⟨.hbm, 250, rfl⟩
abbrev main_call14_cst_0 : Ref sig .tc := ⟨.hbm, 251, rfl⟩
abbrev main_call14_v4 : Ref sig .tc := ⟨.hbm, 252, rfl⟩
abbrev main_call14_v5 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16x4096x1024 : Shape := ⟨3, ![16, 4096, 1024]⟩
abbrev S16x4x4096x128 : Shape := ⟨4, ![16, 4, 4096, 128]⟩
abbrev S16x6144 : Shape := ⟨2, ![16, 6144]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x6x1024 : Shape := ⟨3, ![16, 6, 1024]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S16x4x1024 : Shape := ⟨3, ![16, 4, 1024]⟩
abbrev S1x1024 : Shape := ⟨2, ![1, 1024]⟩
abbrev S1x512x1024 : Shape := ⟨3, ![1, 512, 1024]⟩
abbrev S1x4x512x128 : Shape := ⟨4, ![1, 4, 512, 128]⟩
abbrev S1x4x1024 : Shape := ⟨3, ![1, 4, 1024]⟩
abbrev S512x1024 : Shape := ⟨2, ![512, 1024]⟩
abbrev S22x2x528x128 : Shape := ⟨4, ![22, 2, 528, 128]⟩
abbrev S512x2816 : Shape := ⟨2, ![512, 2816]⟩
abbrev S1x1x1024 : Shape := ⟨3, ![1, 1, 1024]⟩
abbrev S1x1x256x128 : Shape := ⟨4, ![1, 1, 256, 128]⟩
abbrev S256x128 : Shape := ⟨2, ![256, 128]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S22x2x8x128 : Shape := ⟨4, ![22, 2, 8, 128]⟩
abbrev S8x128 : Shape := ⟨2, ![8, 128]⟩
abbrev S1024x256 : Shape := ⟨2, ![1024, 256]⟩
abbrev S512x256 : Shape := ⟨2, ![512, 256]⟩
abbrev S512x128 : Shape := ⟨2, ![512, 128]⟩
abbrev S1x1x512x128 : Shape := ⟨4, ![1, 1, 512, 128]⟩
abbrev S1x128 : Shape := ⟨2, ![1, 128]⟩
abbrev S1x1x64x128 : Shape := ⟨4, ![1, 1, 64, 128]⟩
abbrev S64x128 : Shape := ⟨2, ![64, 128]⟩
abbrev S56x128 : Shape := ⟨2, ![56, 128]⟩
abbrev S256x2816 : Shape := ⟨2, ![256, 2816]⟩

abbrev nBuf : Space → Nat
  | .hbm => 25
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S16x4x4096x128, .bf16⟩
  | .hbm, ⟨2, _⟩ => ⟨S16x4x4096x128, .bf16⟩
  | .hbm, ⟨3, _⟩ => ⟨S16x6144, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x5632, .f32⟩
  | .hbm, ⟨9, _⟩ => ⟨S3x5632, .f32⟩
  | .hbm, ⟨10, _⟩ => ⟨S5632, .f32⟩
  | .hbm, ⟨11, _⟩ => ⟨S2816x1024, .f32⟩
  | .hbm, ⟨12, _⟩ => ⟨S16x6x1024, .f32⟩
  | .hbm, ⟨13, _⟩ => ⟨S1x5632, .f32⟩
  | .hbm, ⟨14, _⟩ => ⟨S_, .f32⟩
  | .hbm, ⟨15, _⟩ => ⟨S4x5632, .f32⟩
  | .hbm, ⟨16, _⟩ => ⟨S8x5632, .f32⟩
  | .hbm, ⟨17, _⟩ => ⟨S16x4x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1024x1024, .bf16⟩
  | .hbm, ⟨22, _⟩ => ⟨S1024x5632, .bf16⟩
  | .hbm, ⟨23, _⟩ => ⟨S2816x1024, .bf16⟩
  | .hbm, ⟨24, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4x512x128, .bf16⟩
  | .local _ .vmem, ⟨3, _⟩ => ⟨S1x4x512x128, .bf16⟩
  | .local _ .vmem, ⟨4, _⟩ => ⟨S1x4x512x128, .bf16⟩
  | .local _ .vmem, ⟨5, _⟩ => ⟨S1x4x512x128, .bf16⟩
  | .local _ .vmem, ⟨6, _⟩ => ⟨S1x4x1024, .f32⟩
  | .local _ .vmem, ⟨7, _⟩ => ⟨S1x4x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x5632, .bf16⟩
  | .local _ .vmem, ⟨13, _⟩ => ⟨S8x5632, .f32⟩
  | .local _ .vmem, ⟨14, _⟩ => ⟨S2816x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S22x2x528x128, .f32⟩
  | .local _ .vmem, ⟨19, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S16x4096x1024 : Shape := ⟨3, ![16, 4096, 1024]⟩
abbrev S16x4x4096x128 : Shape := ⟨4, ![16, 4, 4096, 128]⟩
abbrev S16x6144 : Shape := ⟨2, ![16, 6144]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x1024 : Shape := ⟨2, ![16, 1024]⟩
abbrev S16x1x1024 : Shape := ⟨3, ![16, 1, 1024]⟩
abbrev S16x4096x4x128 : Shape := ⟨4, ![16, 4096, 4, 128]⟩
abbrev S16x4096x512 : Shape := ⟨3, ![16, 4096, 512]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x64x64x5632 : Shape := ⟨4, ![16, 64, 64, 5632]⟩
abbrev S16x64x66x5632 : Shape := ⟨4, ![16, 64, 66, 5632]⟩
abbrev S1x5632 : Shape := ⟨2, ![1, 5632]⟩
abbrev S1x1x1x5632 : Shape := ⟨4, ![1, 1, 1, 5632]⟩
abbrev S16x4096x2816 : Shape := ⟨3, ![16, 4096, 2816]⟩

abbrev nBuf : Space → Nat
  | .hbm => 135
  | .vmem => 0
  | .smem => 0
  | _ => 0

abbrev hbmTy0_0 (i : Nat) : BufTy := match i % 128 with
  | 0 => ⟨S16x4096x1024, .f32⟩
  | 1 => ⟨S16x4x4096x128, .bf16⟩
  | 2 => ⟨S16x4x4096x128, .bf16⟩
  | 3 => ⟨S16x6144, .f32⟩
  | 4 => ⟨S1024, .f32⟩
  | 5 => ⟨S1024, .f32⟩
  | 6 => ⟨S1024, .f32⟩
  | 7 => ⟨S1024x1024, .f32⟩
  | 8 => ⟨S1024x5632, .f32⟩
  | 9 => ⟨S3x5632, .f32⟩
  | 10 => ⟨S5632, .f32⟩
  | 11 => ⟨S2816x1024, .f32⟩
  | 12 => ⟨S16x1024, .f32⟩
  | 13 => ⟨S16x1024, .f32⟩
  | 14 => ⟨S16x1024, .f32⟩
  | 15 => ⟨S16x1024, .f32⟩
  | 16 => ⟨S16x1024, .f32⟩
  | 17 => ⟨S16x1024, .f32⟩
  | 18 => ⟨S16x1x1024, .f32⟩
  | 19 => ⟨S16x1x1024, .f32⟩
  | 20 => ⟨S16x1x1024, .f32⟩
  | 21 => ⟨S16x1x1024, .f32⟩
  | 22 => ⟨S16x1x1024, .f32⟩
  | 23 => ⟨S16x1x1024, .f32⟩
  | 24 => ⟨S16x4x4096x128, .f32⟩
  | 25 => ⟨S16x4096x4x128, .f32⟩
  | 26 => ⟨S16x4096x512, .f32⟩
  | 27 => ⟨S16x4x4096x128, .f32⟩
  | 28 => ⟨S16x4096x4x128, .f32⟩
  | 29 => ⟨S16x4096x512, .f32⟩
  | 30 => ⟨S16x4096x1024, .f32⟩
  | 31 => ⟨S16x4096x1024, .f32⟩
  | 32 => ⟨S16x4096x1024, .f32⟩
  | 33 => ⟨S_, .f32⟩
  | 34 => ⟨S16x4096, .f32⟩
  | 35 => ⟨S16x4096x1, .f32⟩
  | 36 => ⟨S_, .f32⟩
  | 37 => ⟨S16x4096x1, .f32⟩
  | 38 => ⟨S16x4096x1, .f32⟩
  | 39 => ⟨S_, .f32⟩
  | 40 => ⟨S16x4096x1, .f32⟩
  | 41 => ⟨S16x4096x1, .f32⟩
  | 42 => ⟨S16x4096x1, .f32⟩
  | 43 => ⟨S16x4096x1024, .f32⟩
  | 44 => ⟨S16x4096x1024, .f32⟩
  | 45 => ⟨S1x1x1024, .f32⟩
  | 46 => ⟨S16x4096x1024, .f32⟩
  | 47 => ⟨S16x4096x1024, .f32⟩
  | 48 => ⟨S16x4096x1024, .f32⟩
  | 49 => ⟨S16x4096x1024, .f32⟩
  | 50 => ⟨S16x4096x1024, .f32⟩
  | 51 => ⟨S16x4096x1024, .f32⟩
  | 52 => ⟨S_, .f32⟩
  | 53 => ⟨S16x4096, .f32⟩
  | 54 => ⟨S16x4096x1, .f32⟩
  | 55 => ⟨S_, .f32⟩
  | 56 => ⟨S16x4096x1, .f32⟩
  | 57 => ⟨S16x4096x1, .f32⟩
  | 58 => ⟨S_, .f32⟩
  | 59 => ⟨S16x4096x1, .f32⟩
  | 60 => ⟨S16x4096x1, .f32⟩
  | 61 => ⟨S16x4096x1, .f32⟩
  | 62 => ⟨S16x4096x1024, .f32⟩
  | 63 => ⟨S16x4096x1024, .f32⟩
  | 64 => ⟨S1x1x1024, .f32⟩
  | 65 => ⟨S16x4096x1024, .f32⟩
  | 66 => ⟨S16x4096x1024, .f32⟩
  | 67 => ⟨S_, .f32⟩
  | 68 => ⟨S16x1x1024, .f32⟩
  | 69 => ⟨S16x1x1024, .f32⟩
  | 70 => ⟨S16x4096x1024, .f32⟩
  | 71 => ⟨S16x4096x1024, .f32⟩
  | 72 => ⟨S16x4096x1024, .f32⟩
  | 73 => ⟨S16x4096x1024, .f32⟩
  | 74 => ⟨S16x4096x5632, .f32⟩
  | 75 => ⟨S16x64x64x5632, .f32⟩
  | 76 => ⟨S_, .i32⟩
  | 77 => ⟨S_, .f32⟩
  | 78 => ⟨S16x64x66x5632, .f32⟩
  | 79 => ⟨S16x64x64x5632, .f32⟩
  | 80 => ⟨S1x5632, .f32⟩
  | 81 => ⟨S5632, .f32⟩
  | 82 => ⟨S1x1x1x5632, .f32⟩
  | 83 => ⟨S16x64x64x5632, .f32⟩
  | 84 => ⟨S16x64x64x5632, .f32⟩
  | 85 => ⟨S16x64x64x5632, .f32⟩
  | 86 => ⟨S1x5632, .f32⟩
  | 87 => ⟨S5632, .f32⟩
  | 88 => ⟨S1x1x1x5632, .f32⟩
  | 89 => ⟨S16x64x64x5632, .f32⟩
  | 90 => ⟨S16x64x64x5632, .f32⟩
  | 91 => ⟨S16x64x64x5632, .f32⟩
  | 92 => ⟨S16x64x64x5632, .f32⟩
  | 93 => ⟨S1x5632, .f32⟩
  | 94 => ⟨S5632, .f32⟩
  | 95 => ⟨S1x1x1x5632, .f32⟩
  | 96 => ⟨S16x64x64x5632, .f32⟩
  | 97 => ⟨S16x64x64x5632, .f32⟩
  | 98 => ⟨S16x64x64x5632, .f32⟩
  | 99 => ⟨S1x1x1x5632, .f32⟩
  | 100 => ⟨S16x64x64x5632, .f32⟩
  | 101 => ⟨S16x64x64x5632, .f32⟩
  | 102 => ⟨S16x4096x5632, .f32⟩
  | 103 => ⟨S16x4096x2816, .f32⟩
  | 104 => ⟨S16x4096x2816, .f32⟩
  | 105 => ⟨S16x4096x2816, .f32⟩
  | 106 => ⟨S16x4096x2816, .f32⟩
  | 107 => ⟨S_, .f32⟩
  | 108 => ⟨S16x4096x2816, .f32⟩
  | 109 => ⟨S16x4096x2816, .f32⟩
  | 110 => ⟨S_, .f32⟩
  | 111 => ⟨S16x4096x2816, .f32⟩
  | 112 => ⟨S16x4096x2816, .f32⟩
  | 113 => ⟨S16x4096x2816, .f32⟩
  | 114 => ⟨S16x4096x2816, .f32⟩
  | 115 => ⟨S16x4096x1024, .f32⟩
  | 116 => ⟨S16x4096x1024, .f32⟩
  | 117 => ⟨S_, .f32⟩
  | 118 => ⟨S16x4096, .f32⟩
  | 119 => ⟨S16x4096x1, .f32⟩
  | 120 => ⟨S_, .f32⟩
  | 121 => ⟨S16x4096x1, .f32⟩
  | 122 => ⟨S16x4096x1, .f32⟩
  | 123 => ⟨S_, .f32⟩
  | 124 => ⟨S16x4096x1, .f32⟩
  | 125 => ⟨S16x4096x1, .f32⟩
  | 126 => ⟨S16x4096x1, .f32⟩
  | 127 => ⟨S16x4096x1024, .f32⟩
  | _ => ⟨S16x4096x1024, .f32⟩

abbrev hbmTy0_1 (i : Nat) : BufTy := match i % 128 with
  | 0 => ⟨S16x4096x1024, .f32⟩
  | 1 => ⟨S1x1x1024, .f32⟩
  | 2 => ⟨S16x4096x1024, .f32⟩
  | 3 => ⟨S16x4096x1024, .f32⟩
  | 4 => ⟨S16x4096x1024, .f32⟩
  | 5 => ⟨S16x4096x1024, .f32⟩
  | 6 => ⟨S16x4096x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c : Ref sig .tc := ⟨.hbm, 76, rfl⟩
abbrev main_call0_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_call1_v0 : Ref sig .tc := ⟨.hbm, 105, rfl⟩
abbrev main_call1_v1 : Ref sig .tc := ⟨.hbm, 106, rfl⟩
abbrev main_call1_cst : Ref sig .tc := ⟨.hbm, 107, rfl⟩
abbrev main_call1_v2 : Ref sig .tc := ⟨.hbm, 108, rfl⟩
abbrev main_call1_v3 : Ref sig .tc := ⟨.hbm, 109, rfl⟩
abbrev main_call1_cst_0 : Ref sig .tc := ⟨.hbm, 110, rfl⟩
abbrev main_call1_v4 : Ref sig .tc := ⟨.hbm, 111, rfl⟩
abbrev main_call1_v5 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_6 : Ref sig .tc := ⟨.hbm, 117, rfl⟩
abbrev main_v88 : Ref sig .tc := ⟨.hbm, 118, rfl⟩
abbrev main_v89 : Ref sig .tc := ⟨.hbm, 119, rfl⟩
abbrev main_cst_7 : Ref sig .tc := ⟨.hbm, 120, rfl⟩
abbrev main_v90 : Ref sig .tc := ⟨.hbm, 121, rfl⟩
abbrev main_v91 : Ref sig .tc := ⟨.hbm, 122, rfl⟩
abbrev main_cst_8 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== Proof.Run.lean ====
module

public import proofs.«01_k».proof.Proof.Gen.KernelIdeal.Frame
public import proofs.«01_k».proof.Proof.Gen.KernelIdeal.Loops

/-! The retention body runs on any staging buffers: the inputs are left as they were, and the output block ends as
    the list of pieces the run finds, written over whatever was there. -/

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body's triple. The output block is handed over at contents `f8` and returned as `L` written over them; the last
    two scratch arrays are handed over at the contents `f13` and `f14` that the run's lists may mention. -/
def run (c : Dev nD) (i : grid0.Coords) (arg2 : Memref sig .tc .vmem S1x1x4096x128 .bf16) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S4x128 .f32) (harg8 : arg8.IsWhole) (arg9 : Memref sig .tc .vmem S4x128 .f32) (harg9 : arg9.IsWhole) (arg10 : Memref sig .tc .vmem S1x1x4096x128 .bf16) (harg10 : arg10.IsWhole) (arg11 : Memref sig .tc .vmem S16x128x128 .f32) (harg11 : arg11.IsWhole) (arg12 : Memref sig .tc .vmem S16x128x128 .f32) (harg12 : arg12.IsWhole) (arg13 : Memref sig .tc .vmem S16x128x128 .bf16) (harg13 : arg13.IsWhole) (arg14 : Memref sig .tc .vmem S16x128x128 .bf16) (harg14 : arg14.IsWhole)
    (x0 : Vec F S1x1x4096x128 .bf16) (x1 : Vec F S1x1x4096x128 .bf16) (x2 : Vec F S1x1x4096x128 .bf16) (x3 : Vec F S1x1x4096x128 .bf16) (x4 : Vec F S1x1x128x128 .f32) (x5 : Vec F S1x1x128x128 .f32) (x6 : Vec F S4x128 .f32) (x7 : Vec F S4x128 .f32) (f13 : Buf (Elt F) (arg13.view.loc (c : Thread nD τ))) (f14 : Buf (Elt F) (arg14.view.loc (c : Thread nD τ))) :
    { L : List (View.Piece (Elt F) S1x1x4096x128 .bf16) // ∀ (E : Set ℕ) (K : PUnit → sProp 𝕄) (f8 : Buf (Elt F) (arg10.view.loc (c : Thread nD τ))),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} f8) ∗ (∃ f, arg11.view.loc (c : Thread nD τ) ↦[arg11.view.set]{fullShare} f) ∗ (∃ f, arg12.view.loc (c : Thread nD τ) ↦[arg12.view.set]{fullShare} f) ∗ (arg13.view.loc (c : Thread nD τ) ↦[arg13.view.set]{fullShare} f13) ∗ (arg14.view.loc (c : Thread nD τ) ↦[arg14.view.set]{fullShare} f14)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} (arg10.view.writes (Elt F) f8 L)) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14) K } := by
  refine ⟨?_, fun E K f8 => ?walk⟩
  case walk =>
    simp only [cc0_retention_eq_skeleton]; unfold cc0_retention_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, H8, ⟨%g9, H9⟩, ⟨%g10, H10⟩, H11, H12, Hk⟩
    obtain rfl := harg2.eq_unread hg0; obtain rfl := harg3.eq_unread hg1; obtain rfl := harg4.eq_unread hg2; obtain rfl := harg5.eq_unread hg3; obtain rfl := harg6.eq_unread hg4; obtain rfl := harg7.eq_unread hg5; obtain rfl := harg8.eq_unread hg6; obtain rfl := harg9.eq_unread hg7
    sl_exec
    sl_step
    iapply Hk
    isplitl [H0]
    · iexists _; isplitr
      · ipureintro; exact harg2.read_unread _
      iexact H0
    isplitl [H1]
    · iexists _; isplitr
      · ipureintro; exact harg3.read_unread _
      iexact H1
    isplitl [H2]
    · iexists _; isplitr
      · ipureintro; exact harg4.read_unread _
      iexact H2
    isplitl [H3]
    · iexists _; isplitr
      · ipureintro; exact harg5.read_unread _
      iexact H3
    isplitl [H4]
    · iexists _; isplitr
      · ipureintro; exact harg6.read_unread _
      iexact H4
    isplitl [H5]
    · iexists _; isplitr
      · ipureintro; exact harg7.read_unread _
      iexact H5
    isplitl [H6]
    · iexists _; isplitr
      · ipureintro; exact harg8.read_unread _
      iexact H6
    isplitl [H7]
    · iexists _; isplitr
      · ipureintro; exact harg9.read_unread _
      iexact H7
    isplitl [H8]
    · iexact H8
    isplitl [H9]
    · iexists _; iexact H9
    isplitl [H10]
    · iexists _; iexact H10
    isplitl [H11]
    · iexists _; iexact H11
    iexists _; iexact H12

end Cert.KernelIdeal.Ret

end
-- ==== Proof.States.lean ====
module

public import proofs.«01_k».proof.Proof.Run

/-! What the two counted loops of the body compute: the running states, and the slabs they store. -/

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen

variable {F : FTy → Type} [FloatOps F]

/-- The forward states: each is the last one, decayed, and the next chunk's contribution. -/
def rec1 (v64 : FVec F S1x128 .f32) (KV : ℕ → FVec F S1x128x128 .f32) (init : FVec F S128x128 .f32) : ℕ → FVec F S128x128 .f32
  | 0 => init
  | k + 1 => k0_pay85 v64 (rec1 v64 KV init k) (KV k)

/-- The backward states, counted from the last chunk. -/
def rec2 (v67 : FVec F S1x128 .f32) (KV : ℕ → FVec F S1x128x128 .f32) (init : FVec F S128x128 .f32) : ℕ → FVec F S128x128 .f32
  | 0 => init
  | k + 1 => k0_pay88 v67 (rec2 v67 KV init k) (KV k)

theorem off3_eq : ∀ k : Fin k0_t1_loop.trips, k0_off3 k = ![k.val, 0, 0] := by decide +kernel
theorem off4_eq : ∀ k : Fin k0_t2_loop.trips, k0_off4 k = ![15 - k.val, 0, 0] := by decide +kernel

variable (c : Dev nD) (i : grid0.Coords) (arg2 : Memref sig .tc .vmem S1x1x4096x128 .bf16) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S4x128 .f32) (harg8 : arg8.IsWhole) (arg9 : Memref sig .tc .vmem S4x128 .f32) (harg9 : arg9.IsWhole) (arg10 : Memref sig .tc .vmem S1x1x4096x128 .bf16) (harg10 : arg10.IsWhole) (arg11 : Memref sig .tc .vmem S16x128x128 .f32) (harg11 : arg11.IsWhole) (arg12 : Memref sig .tc .vmem S16x128x128 .f32) (harg12 : arg12.IsWhole) (arg13 : Memref sig .tc .vmem S16x128x128 .bf16) (harg13 : arg13.IsWhole) (arg14 : Memref sig .tc .vmem S16x128x128 .bf16) (harg14 : arg14.IsWhole) (v46 : FVec F S256x128 .f32) (v51 : FVec F S256x128 .f32) (v61 : FVec F S256x256 .f32) (v64 : FVec F S1x128 .f32) (v67 : FVec F S1x128 .f32) (v437 : FVec F S128x128 .f32) (c0 c1 : BitVec 32)

theorem trip1 (X : BufTy.Contents (Elt F) arg11.view.ty) (k : Fin k0_t1_loop.trips) (acc : FVec F S128x128 .f32) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X k acc
      = k0_pay85 v64 acc (View.readAt (Elt F) arg11.view (Rect.unit (s := S16x128x128) (k0_off3 k) S1x128x128.size (k0_off3_inb k)).toLoadRect X) := by
  unfold tripR_k0_t1 trip_k0_t1; rfl

theorem trip1_pieces (X : BufTy.Contents (Elt F) arg11.view.ty) (k : Fin k0_t1_loop.trips) (acc : FVec F S128x128 .f32) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X k acc
      = [⟨Rect.unit (s := S16x128x128) (k0_off3 k) S1x128x128.size (k0_off3_inb k), k0_pay84 acc⟩] := by
  unfold tripL_k0_t1 trip_k0_t1; rfl

theorem states1 (X : BufTy.Contents (Elt F) arg11.view.ty) (init : FVec F S128x128 .f32) (KV : ℕ → FVec F S1x128x128 .f32)
    (hKV : ∀ k : Fin k0_t1_loop.trips, View.readAt (Elt F) arg11.view (Rect.unit (s := S16x128x128) (k0_off3 k) S1x128x128.size (k0_off3_inb k)).toLoadRect X = KV k.val) :
    ∀ k : ℕ, k ≤ 16 → (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init k).1 = rec1 v64 KV init k
  | 0, _ => rfl
  | k + 1, hk => by
    have h := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init ⟨k, hk⟩
    dsimp only at h
    rw [h]
    dsimp only [rec1]
    rw [trip1, states1 X init KV hKV k (by omega), hKV ⟨k, hk⟩]

theorem slabs1 (X : BufTy.Contents (Elt F) arg11.view.ty) (init : FVec F S128x128 .f32) (KV : ℕ → FVec F S1x128x128 .f32)
    (hKV : ∀ k : Fin k0_t1_loop.trips, View.readAt (Elt F) arg11.view (Rect.unit (s := S16x128x128) (k0_off3 k) S1x128x128.size (k0_off3_inb k)).toLoadRect X = KV k.val)
    (f : BufTy.Contents (Elt F) arg13.view.ty) (n : ℕ) (x : S1x128x128.Idx) (y : S16x128x128.Idx) (h0 : (y 0).val = n) (h1 : (y 1).val = (x 1).val) (h2 : (y 2).val = (x 2).val) :
    ∀ k : ℕ, n < k → k ≤ 16 → arg13.view.read (Elt F) (arg13.view.writes (Elt F) f (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init k).2) y = k0_pay84 (rec1 v64 KV init n) x
  | 0, h, _ => absurd h (Nat.not_lt_zero _)
  | k + 1, hn, hk => by
    have h := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init ⟨k, hk⟩
    dsimp only at h
    rw [h, trip1_pieces, List.singleton_append]
    have e := off3_eq ⟨k, hk⟩
    by_cases hnk : n = k
    · subst hnk
      rw [View.read_writes_cons_hit_of_coords arg13.view f _ _ _ x y, states1 c i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init KV hKV n (by omega)]
      intro a
      show (y a).val = k0_off3 ⟨n, hk⟩ a + 1 * (x a).val
      rw [e]
      have := (x 0).isLt
      fin_cases a
      · show (y 0).val = n + 1 * (x 0).val
        have : (x 0).val < 1 := this
        omega
      · show (y 1).val = 0 + 1 * (x 1).val
        omega
      · show (y 2).val = 0 + 1 * (x 2).val
        omega
    · rw [View.read_writes_cons_miss_of_axis arg13.view f _ _ y 0 k 1 (congrFun e 0) rfl rfl (by omega)]
      exact slabs1 X init KV hKV f n x y h0 h1 h2 k (by omega) (by omega)

theorem trip2 (X : BufTy.Contents (Elt F) arg12.view.ty) (k : Fin k0_t2_loop.trips) (acc : FVec F S128x128 .f32) :
    tripR_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X k acc
      = k0_pay88 v67 acc (View.readAt (Elt F) arg12.view (Rect.unit (s := S16x128x128) (k0_off4 k) S1x128x128.size (k0_off4_inb k)).toLoadRect X) := by
  unfold tripR_k0_t2 trip_k0_t2; rfl

theorem trip2_pieces (X : BufTy.Contents (Elt F) arg12.view.ty) (k : Fin k0_t2_loop.trips) (acc : FVec F S128x128 .f32) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X k acc
      = [⟨Rect.unit (s := S16x128x128) (k0_off4 k) S1x128x128.size (k0_off4_inb k), k0_pay87 acc⟩] := by
  unfold tripL_k0_t2 trip_k0_t2; rfl

theorem states2 (X : BufTy.Contents (Elt F) arg12.view.ty) (init : FVec F S128x128 .f32) (KV : ℕ → FVec F S1x128x128 .f32)
    (hKV : ∀ k : Fin k0_t2_loop.trips, View.readAt (Elt F) arg12.view (Rect.unit (s := S16x128x128) (k0_off4 k) S1x128x128.size (k0_off4_inb k)).toLoadRect X = KV k.val) :
    ∀ k : ℕ, k ≤ 16 → (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init k).1 = rec2 v67 KV init k
  | 0, _ => rfl
  | k + 1, hk => by
    have h := st_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init ⟨k, hk⟩
    dsimp only at h
    rw [h]
    dsimp only [rec2]
    rw [trip2, states2 X init KV hKV k (by omega), hKV ⟨k, hk⟩]

theorem slabs2 (X : BufTy.Contents (Elt F) arg12.view.ty) (init : FVec F S128x128 .f32) (KV : ℕ → FVec F S1x128x128 .f32)
    (hKV : ∀ k : Fin k0_t2_loop.trips, View.readAt (Elt F) arg12.view (Rect.unit (s := S16x128x128) (k0_off4 k) S1x128x128.size (k0_off4_inb k)).toLoadRect X = KV k.val)
    (f : BufTy.Contents (Elt F) arg14.view.ty) (n : ℕ) (x : S1x128x128.Idx) (y : S16x128x128.Idx) (h0 : (y 0).val = 15 - n) (h1 : (y 1).val = (x 1).val) (h2 : (y 2).val = (x 2).val) :
    ∀ k : ℕ, n < k → k ≤ 16 → arg14.view.read (Elt F) (arg14.view.writes (Elt F) f (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init k).2) y = k0_pay87 (rec2 v67 KV init n) x
  | 0, h, _ => absurd h (Nat.not_lt_zero _)
  | k + 1, hn, hk => by
    have h := st_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init ⟨k, hk⟩
    dsimp only at h
    rw [h, trip2_pieces, List.singleton_append]
    have e := off4_eq ⟨k, hk⟩
    by_cases hnk : n = k
    · subst hnk
      rw [View.read_writes_cons_hit_of_coords arg14.view f _ _ _ x y, states2 c i arg2 harg2 arg3 harg3 arg4 harg4 arg5 harg5 arg6 harg6 arg7 harg7 arg8 harg8 arg9 harg9 arg10 harg10 arg11 harg11 arg12 harg12 arg13 harg13 arg14 harg14 v46 v51 v61 v64 v67 v437 c0 c1 X init KV hKV n (by omega)]
      intro a
      show (y a).val = k0_off4 ⟨n, hk⟩ a + 1 * (x a).val
      rw [e]
      have := (x 0).isLt
      fin_cases a
      · show (y 0).val = 15 - n + 1 * (x 0).val
        have : (x 0).val < 1 := this
        omega
      · show (y 1).val = 0 + 1 * (x 1).val
        omega
      · show (y 2).val = 0 + 1 * (x 2).val
        omega
    · rw [View.read_writes_cons_miss_of_axis arg14.view f _ _ y 0 (15 - k) 1 (congrFun e 0) rfl rfl (by omega)]
      exact slabs2 X init KV hKV f n x y h0 h1 h2 k (by omega) (by omega)

end Cert.KernelIdeal.Ret

end
-- ==== Proof.Block.lean ====
module

public import proofs.«01_k».proof.Proof.States
public import Idealize.ShloMosaic.Lib.Pointwise

/-! What the retention body writes: each chunk's rows of the output block, as a function of the input blocks alone. -/

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen

variable {F : FTy → Type} [FloatOps F]

theorem rows_inb (n : Fin 16) : ∀ a, (![0, 0, 256 * n.val, 0] : Fin 4 → ℕ) a + S1x1x256x128.size a ≤ S1x1x4096x128.size a := by
  revert n; decide +kernel

theorem slab_inb (n : Fin 16) : ∀ a, (![n.val, 0, 0] : Fin 3 → ℕ) a + S1x128x128.size a ≤ S16x128x128.size a := by
  revert n; decide +kernel

/-- The rows of chunk `n` of a head's block. -/
abbrev rows (x : Vec F S1x1x4096x128 .bf16) (n : Fin 16) : Vec F S1x1x256x128 .bf16 :=
  View.ld x (Rect.unit (s := S1x1x4096x128) ![0, 0, 256 * n.val, 0] S1x1x256x128.size (rows_inb n))

/-- The row of a decay table that belongs to the grid point's head. -/
abbrev headRow (x : Vec F S4x128 .f32) (i : grid0.Coords) : Vec F S1x128 .f32 :=
  View.ld x (Rect.unit (s := S4x128) (k0_off1 i) S1x128.size (k0_off1_inb i))

/-- The seven tables of decay powers, from the two rows. -/
def zetaF (a : Vec F S1x128 .f32) : FVec F S256x128 .f32 := k0_pay7 a
def zetaB (b : Vec F S1x128 .f32) : FVec F S256x128 .f32 := k0_pay8 b
def xiF (a : Vec F S1x128 .f32) : FVec F S256x128 .f32 := k0_pay9 a
def xiB (b : Vec F S1x128 .f32) : FVec F S256x128 .f32 := k0_pay10 (k0_pay2 b) (k0_pay3 (F := F)) (Scalar.ofBits .f32 0x43800000#32)
def decay (a b : Vec F S1x128 .f32) : FVec F S256x256 .f32 := k0_pay11 (k0_pay4 (F := F)) (k0_pay5 a) (k0_pay6 b)
def cdF (a : Vec F S1x128 .f32) : FVec F S1x128 .f32 := k0_pay12 (k0_pay1 a)
def cdB (b : Vec F S1x128 .f32) : FVec F S1x128 .f32 := k0_pay13 (k0_pay2 b)

/-- A chunk's contribution to the forward and to the backward state. -/
def kvF (a : Vec F S1x128 .f32) (k v : Vec F S1x1x256x128 .bf16) : FVec F S1x128x128 .f32 := k0_pay16 (zetaF a) k v
def kvB (b : Vec F S1x128 .f32) (k v : Vec F S1x1x256x128 .bf16) : FVec F S1x128x128 .f32 := k0_pay18 (k0_pay17 (zetaB b) k v)

/-- A chunk's rows of the result, from its queries, keys, values and gates and the two states that reach it. -/
def chunkOut (a b : Vec F S1x128 .f32) (q k v g : Vec F S1x1x256x128 .bf16) (sf sb : FVec F S1x128x128 .bf16) : FVec F S1x1x256x128 .bf16 :=
  k0_pay98 (k0_pay97 (xiF a) (xiB b) (decay a b) (k0_pay95 q) (k0_pay96 k) v sf sb g)

/-- Pieces that fill a scratch array slab by slab, the last slab first. -/
def slabList (P : Fin 16 → Vec F S1x128x128 .f32) : (n : ℕ) → n ≤ 16 → List (View.Piece (Elt F) S16x128x128 .f32)
  | 0, _ => []
  | n + 1, h => ⟨Rect.unit (s := S16x128x128) ![n, 0, 0] S1x128x128.size (slab_inb ⟨n, h⟩), P ⟨n, h⟩⟩ :: slabList P n (by omega)

/-- Pieces that fill the output block chunk by chunk, the last chunk first. -/
def rowList (P : Fin 16 → Vec F S1x1x256x128 .bf16) : (n : ℕ) → n ≤ 16 → List (View.Piece (Elt F) S1x1x4096x128 .bf16)
  | 0, _ => []
  | n + 1, h => ⟨Rect.unit (s := S1x1x4096x128) ![0, 0, 256 * n, 0] S1x1x256x128.size (rows_inb ⟨n, h⟩), P ⟨n, h⟩⟩ :: rowList P n (by omega)

section Raw

variable (c : Dev nD) (i : grid0.Coords) (arg2 : Memref sig .tc .vmem S1x1x4096x128 .bf16) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S4x128 .f32) (harg8 : arg8.IsWhole) (arg9 : Memref sig .tc .vmem S4x128 .f32) (harg9 : arg9.IsWhole) (arg10 : Memref sig .tc .vmem S1x1x4096x128 .bf16) (harg10 : arg10.IsWhole) (arg11 : Memref sig .tc .vmem S16x128x128 .f32) (harg11 : arg11.IsWhole) (arg12 : Memref sig .tc .vmem S16x128x128 .f32) (harg12 : arg12.IsWhole) (arg13 : Memref sig .tc .vmem S16x128x128 .bf16) (harg13 : arg13.IsWhole) (arg14 : Memref sig .tc .vmem S16x128x128 .bf16) (harg14 : arg14.IsWhole)
  (x0 : Vec F S1x1x4096x128 .bf16) (x1 : Vec F S1x1x4096x128 .bf16) (x2 : Vec F S1x1x4096x128 .bf16) (x3 : Vec F S1x1x4096x128 .bf16) (x4 : Vec F S1x1x128x128 .f32) (x5 : Vec F S1x1x128x128 .f32) (x6 : Vec F S4x128 .f32) (x7 : Vec F S4x128 .f32) (f13 : BufTy.Contents (Elt F) arg13.view.ty) (f14 : BufTy.Contents (Elt F) arg14.view.ty)

set_option maxHeartbeats 2000000 in
theorem run_eq : (run c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 f13 f14).1 = rowList (fun n => chunkOut (View.readAt (Elt F) arg8.view (Rect.unit (s := S4x128) (k0_off1 i) S1x128.size (k0_off1_inb i)).toLoadRect (harg8.unread x6)) (View.readAt (Elt F) arg9.view (Rect.unit (s := S4x128) (k0_off1 i) S1x128.size (k0_off1_inb i)).toLoadRect (harg9.unread x7)) (View.readAt (Elt F) arg2.view (Rect.unit (s := S1x1x4096x128) ![0, 0, 256 * n.val, 0] S1x1x256x128.size (rows_inb n)).toLoadRect (harg2.unread x0)) (View.readAt (Elt F) arg3.view (Rect.unit (s := S1x1x4096x128) ![0, 0, 256 * n.val, 0] S1x1x256x128.size (rows_inb n)).toLoadRect (harg3.unread x1)) (View.readAt (Elt F) arg4.view (Rect.unit (s := S1x1x4096x128) ![0, 0, 256 * n.val, 0] S1x1x256x128.size (rows_inb n)).toLoadRect (harg4.unread x2)) (View.readAt (Elt F) arg5.view (Rect.unit (s := S1x1x4096x128) ![0, 0, 256 * n.val, 0] S1x1x256x128.size (rows_inb n)).toLoadRect (harg5.unread x3))
    (View.readAt (Elt F) arg13.view (Rect.unit (s := S16x128x128) ![n.val, 0, 0] S1x128x128.size (slab_inb n)).toLoadRect
      (arg13.view.writes (Elt F) f13 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (xiF (View.readAt (Elt F) arg8.view (Rect.unit (s := S4x128) (k0_off1 i) S1x128.size (k0_off1_inb i)).toLoadRect (harg8.unread x6))) (xiB (View.readAt (Elt F) arg9.view (Rect.unit (s := S4x128) (k0_off1 i) S1x128.size (k0_off1_inb i)).toLoadRect (harg9.unread x7))) (decay (View.readAt (Elt F) arg8.view (Rect.unit (s := S4x128) (k0_off1 i) S1x128.size (k0_off1_inb i)).toLoadRect (harg8.unread x6)) (View.readAt (Elt F) arg9.view (Rect.unit (s := S4x128) (k0_off1 i) S1x128.size (k0_off1_inb i)).toLoadRect (harg9.unread x7))) (cdF (View.readAt (Elt F) arg8.view (Rect.unit (s := S4x128) (k0_off1 i) S1x128.size (k0_off1_inb i)).toLoadRect (harg8.unread x6))) (cdB (View.readAt (Elt F) arg9.view (Rect.unit (s := S4x128) (k0_off1 i) S1x128.size (k0_off1_inb i)).toLoadRect (harg9.unread x7))) (k0_pay83 (View.readAt (Elt F) arg6.view (Rect.unit (s := S1x1x128x128) ![0, 0, 0, 0] S1x1x128x128.size inb_S1x1x128x128_S1x1x128x128_0_0_0_0).toLoadRect (harg6.unread x4))) 0#32 1#32
        (arg11.view.writes (Elt F) arg11.view.junk (slabList (fun n => kvF (View.readAt (Elt F) arg8.view (Rect.unit (s := S4x128) (k0_off1 i) S1x128.size (k0_off1_inb i)).toLoadRect (harg8.unread x6)) (View.readAt (Elt F) arg3.view (Rect.unit (s := S1x1x4096x128) ![0, 0, 256 * n.val, 0] S1x1x256x128.size (rows_inb n)).toLoadRect (harg3.unread x1)) (View.readAt (Elt F) arg4.view (Rect.unit (s := S1x1x4096x128) ![0, 0, 256 * n.val, 0] S1x1x256x128.size (rows_inb n)).toLoadRect (harg4.unread x2))) 16 le_rfl)) (k0_pay83 (View.readAt (Elt F) arg6.view (Rect.unit (s := S1x1x128x128) ![0, 0, 0, 0] S1x1x128x128.size inb_S1x1x128x128_S1x1x128x128_0_0_0_0).toLoadRect (harg6.unread x4))) 16).2))
    (View.readAt (Elt F) arg14.view (Rect.unit (s := S16x128x128) ![n.val, 0, 0] S1x128x128.size (slab_inb n)).toLoadRect
      (arg14.view.writes (Elt F) f14 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 (xiF (View.readAt (Elt F) arg8.view (Rect.unit (s := S4x128) (k0_off1 i) S1x128.size (k0_off1_inb i)).toLoadRect (harg8.unread x6))) (xiB (View.readAt (Elt F) arg9.view (Rect.unit (s := S4x128) (k0_off1 i) S1x128.size (k0_off1_inb i)).toLoadRect (harg9.unread x7))) (decay (View.readAt (Elt F) arg8.view (Rect.unit (s := S4x128) (k0_off1 i) S1x128.size (k0_off1_inb i)).toLoadRect (harg8.unread x6)) (View.readAt (Elt F) arg9.view (Rect.unit (s := S4x128) (k0_off1 i) S1x128.size (k0_off1_inb i)).toLoadRect (harg9.unread x7))) (cdF (View.readAt (Elt F) arg8.view (Rect.unit (s := S4x128) (k0_off1 i) S1x128.size (k0_off1_inb i)).toLoadRect (harg8.unread x6))) (cdB (View.readAt (Elt F) arg9.view (Rect.unit (s := S4x128) (k0_off1 i) S1x128.size (k0_off1_inb i)).toLoadRect (harg9.unread x7))) (k0_pay83 (View.readAt (Elt F) arg6.view (Rect.unit (s := S1x1x128x128) ![0, 0, 0, 0] S1x1x128x128.size inb_S1x1x128x128_S1x1x128x128_0_0_0_0).toLoadRect (harg6.unread x4))) 0#32 1#32
        (arg12.view.writes (Elt F) arg12.view.junk (slabList (fun n => kvB (View.readAt (Elt F) arg9.view (Rect.unit (s := S4x128) (k0_off1 i) S1x128.size (k0_off1_inb i)).toLoadRect (harg9.unread x7)) (View.readAt (Elt F) arg3.view (Rect.unit (s := S1x1x4096x128) ![0, 0, 256 * n.val, 0] S1x1x256x128.size (rows_inb n)).toLoadRect (harg3.unread x1)) (View.readAt (Elt F) arg4.view (Rect.unit (s := S1x1x4096x128) ![0, 0, 256 * n.val, 0] S1x1x256x128.size (rows_inb n)).toLoadRect (harg4.unread x2))) 16 le_rfl)) (k0_pay86 (View.readAt (Elt F) arg7.view (Rect.unit (s := S1x1x128x128) ![0, 0, 0, 0] S1x1x128x128.size inb_S1x1x128x128_S1x1x128x128_0_0_0_0).toLoadRect (harg7.unread x5))) 16).2))) 16 le_rfl := rfl

end Raw

/-- Slab `n` of an array filled slab by slab is piece `n`. -/
theorem slabList_read {sp : Space} {κ : Kind} (v : View sig κ sp S16x128x128 .f32) (f : v.ty.Contents (Elt F)) (P : Fin 16 → Vec F S1x128x128 .f32) (n : Fin 16)
    (x : S1x128x128.Idx) (y : S16x128x128.Idx) (h0 : (y 0).val = n.val) (h1 : (y 1).val = (x 1).val) (h2 : (y 2).val = (x 2).val) :
    ∀ (k : ℕ) (hk : k ≤ 16), n.val < k → v.read (Elt F) (v.writes (Elt F) f (slabList P k hk)) y = P n x
  | 0, _, h => absurd h (Nat.not_lt_zero _)
  | k + 1, hk, h => by
    dsimp only [slabList]
    by_cases hnk : n.val = k
    · obtain rfl : n = ⟨k, hk⟩ := Fin.ext hnk
      refine View.read_writes_cons_hit_of_coords v f (Rect.unit (s := S16x128x128) ![k, 0, 0] S1x128x128.size (slab_inb ⟨k, hk⟩)) _ _ x y fun a => ?_
      show (y a).val = (![k, 0, 0] : Fin 3 → ℕ) a + 1 * (x a).val
      have : (x 0).val < 1 := (x 0).isLt
      dsimp only at h0
      fin_cases a
      · show (y 0).val = k + 1 * (x 0).val
        omega
      · show (y 1).val = 0 + 1 * (x 1).val
        omega
      · show (y 2).val = 0 + 1 * (x 2).val
        omega
    · rw [View.read_writes_cons_miss_of_axis v f _ _ y 0 k 1 rfl rfl rfl (by omega)]
      exact slabList_read v f P n x y h0 h1 h2 k (by omega) (by omega)

/-- Rows of chunk `n` of a block filled chunk by chunk are piece `n`. -/
theorem rowList_read {sp : Space} {κ : Kind} (v : View sig κ sp S1x1x4096x128 .bf16) (f : v.ty.Contents (Elt F)) (P : Fin 16 → Vec F S1x1x256x128 .bf16) (n : Fin 16)
    (x : S1x1x256x128.Idx) (y : S1x1x4096x128.Idx) (h2 : (y 2).val = 256 * n.val + (x 2).val) (h3 : (y 3).val = (x 3).val) :
    ∀ (k : ℕ) (hk : k ≤ 16), n.val < k → v.read (Elt F) (v.writes (Elt F) f (rowList P k hk)) y = P n x
  | 0, _, h => absurd h (Nat.not_lt_zero _)
  | k + 1, hk, h => by
    dsimp only [rowList]
    have hx2 : (x 2).val < 256 := (x 2).isLt
    by_cases hnk : n.val = k
    · obtain rfl : n = ⟨k, hk⟩ := Fin.ext hnk
      refine View.read_writes_cons_hit_of_coords v f (Rect.unit (s := S1x1x4096x128) ![0, 0, 256 * k, 0] S1x1x256x128.size (rows_inb ⟨k, hk⟩)) _ _ x y fun a => ?_
      show (y a).val = (![0, 0, 256 * k, 0] : Fin 4 → ℕ) a + 1 * (x a).val
      have hx0 : (x 0).val < 1 := (x 0).isLt
      have hx1 : (x 1).val < 1 := (x 1).isLt
      have hy0 : (y 0).val < 1 := (y 0).isLt
      have hy1 : (y 1).val < 1 := (y 1).isLt
      dsimp only at h2
      fin_cases a
      · show (y 0).val = 0 + 1 * (x 0).val
        omega
      · show (y 1).val = 0 + 1 * (x 1).val
        omega
      · show (y 2).val = 256 * k + 1 * (x 2).val
        omega
      · show (y 3).val = 0 + 1 * (x 3).val
        omega
    · rw [View.read_writes_cons_miss_of_axis v f _ _ y 2 (256 * k) 256 rfl rfl rfl (by omega)]
      exact rowList_read v f P n x y h2 h3 k (by omega) (by omega)

/-- The state that reaches chunk `n` from the chunks before it. -/
def stF (i : grid0.Coords) (x1 x2 : Vec F S1x1x4096x128 .bf16) (x4 : Vec F S1x1x128x128 .f32) (x6 : Vec F S4x128 .f32) (n : ℕ) : FVec F S128x128 .f32 :=
  rec1 (cdF (headRow x6 i)) (fun k => kvF (headRow x6 i) (rows x1 (Fin.ofNat 16 k)) (rows x2 (Fin.ofNat 16 k))) (k0_pay83 x4) n

/-- The state that reaches a chunk from the `n` chunks behind it. -/
def stB (i : grid0.Coords) (x1 x2 : Vec F S1x1x4096x128 .bf16) (x5 : Vec F S1x1x128x128 .f32) (x7 : Vec F S4x128 .f32) (n : ℕ) : FVec F S128x128 .f32 :=
  rec2 (cdB (headRow x7 i)) (fun k => kvB (headRow x7 i) (rows x1 (Fin.ofNat 16 (15 - k))) (rows x2 (Fin.ofNat 16 (15 - k)))) (k0_pay86 x5) n

/-- Chunk `n` of the output block, from the input blocks. -/
def chunkOf (i : grid0.Coords) (x0 : Vec F S1x1x4096x128 .bf16) (x1 : Vec F S1x1x4096x128 .bf16) (x2 : Vec F S1x1x4096x128 .bf16) (x3 : Vec F S1x1x4096x128 .bf16) (x4 : Vec F S1x1x128x128 .f32) (x5 : Vec F S1x1x128x128 .f32) (x6 : Vec F S4x128 .f32) (x7 : Vec F S4x128 .f32) (n : Fin 16) : FVec F S1x1x256x128 .bf16 :=
  chunkOut (headRow x6 i) (headRow x7 i) (rows x0 n) (rows x1 n) (rows x2 n) (rows x3 n) (k0_pay84 (stF i x1 x2 x4 x6 n.val)) (k0_pay87 (stB i x1 x2 x5 x7 (15 - n.val)))

/-- The chunk and the row in it that a row of the block is. -/
def chunkNo (y : S1x1x4096x128.Idx) : Fin 16 := ⟨(y 2).val / 256, by have : (y 2).val < 4096 := (y 2).isLt; omega⟩
def chunkIdx (y : S1x1x4096x128.Idx) : S1x1x256x128.Idx :=
  ix4 (0 : Fin 1) (0 : Fin 1) (⟨(y 2).val % 256, Nat.mod_lt _ (by decide)⟩ : Fin 256) (⟨(y 3).val, (y 3).isLt⟩ : Fin 128)

/-- The output block, from the input blocks. -/
def blockOut (i : grid0.Coords) (x0 : Vec F S1x1x4096x128 .bf16) (x1 : Vec F S1x1x4096x128 .bf16) (x2 : Vec F S1x1x4096x128 .bf16) (x3 : Vec F S1x1x4096x128 .bf16) (x4 : Vec F S1x1x128x128 .f32) (x5 : Vec F S1x1x128x128 .f32) (x6 : Vec F S4x128 .f32) (x7 : Vec F S4x128 .f32) : Vec F S1x1x4096x128 .bf16 :=
  fun y => chunkOf i x0 x1 x2 x3 x4 x5 x6 x7 (chunkNo y) (chunkIdx y)

section Reads

variable (c : Dev nD) (i : grid0.Coords) (arg2 : Memref sig .tc .vmem S1x1x4096x128 .bf16) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S4x128 .f32) (harg8 : arg8.IsWhole) (arg9 : Memref sig .tc .vmem S4x128 .f32) (harg9 : arg9.IsWhole) (arg10 : Memref sig .tc .vmem S1x1x4096x128 .bf16) (harg10 : arg10.IsWhole) (arg11 : Memref sig .tc .vmem S16x128x128 .f32) (harg11 : arg11.IsWhole) (arg12 : Memref sig .tc .vmem S16x128x128 .f32) (harg12 : arg12.IsWhole) (arg13 : Memref sig .tc .vmem S16x128x128 .bf16) (harg13 : arg13.IsWhole) (arg14 : Memref sig .tc .vmem S16x128x128 .bf16) (harg14 : arg14.IsWhole)
  (x0 : Vec F S1x1x4096x128 .bf16) (x1 : Vec F S1x1x4096x128 .bf16) (x2 : Vec F S1x1x4096x128 .bf16) (x3 : Vec F S1x1x4096x128 .bf16) (x4 : Vec F S1x1x128x128 .f32) (x5 : Vec F S1x1x128x128 .f32) (x6 : Vec F S4x128 .f32) (x7 : Vec F S4x128 .f32) (f13 : BufTy.Contents (Elt F) arg13.view.ty) (f14 : BufTy.Contents (Elt F) arg14.view.ty)

/-- What the body leaves in the output block's buffer reads `blockOut`, whatever any buffer held before. -/
theorem run_reads (f8 : BufTy.Contents (Elt F) arg10.view.ty) :
    arg10.view.read (Elt F) (arg10.view.writes (Elt F) f8 (run c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 f13 f14).1) = blockOut i x0 x1 x2 x3 x4 x5 x6 x7 := by
  rw [run_eq]
  funext y
  refine (rowList_read arg10.view f8 _ (chunkNo y) (chunkIdx y) y (Nat.div_add_mod (y 2).val 256).symm rfl 16 le_rfl (chunkNo y).isLt).trans ?_
  dsimp only [blockOut, chunkOf]
  simp only [View.readAt_eq_ld, harg2.read_unread, harg3.read_unread, harg4.read_unread, harg5.read_unread, harg6.read_unread, harg7.read_unread, harg8.read_unread, harg9.read_unread]
  have hx0 : ∀ x : S1x128x128.Idx, (x 0).val = 0 := fun x => Nat.lt_one_iff.mp (x 0).isLt
  congr 1
  · funext x
    refine (slabs1 c i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ (fun k => kvF (headRow x6 i) (rows x1 (Fin.ofNat 16 k)) (rows x2 (Fin.ofNat 16 k))) ?_ f13 (chunkNo y).val x _ ?_ ?_ ?_ 16 (chunkNo y).isLt le_rfl).trans ?_
    · intro k
      funext z
      have hk : k.val < 16 := k.isLt
      refine (slabList_read arg11.view _ _ ⟨k.val, hk⟩ z _ ?_ ?_ ?_ 16 le_rfl hk).trans ?_
      · show k0_off3 k 0 + 1 * (z 0).val = k.val
        have e : k0_off3 k 0 = k.val := congrFun (off3_eq k) 0
        have := hx0 z
        omega
      · show k0_off3 k 1 + 1 * (z 1).val = (z 1).val
        have e : k0_off3 k 1 = 0 := congrFun (off3_eq k) 1
        omega
      · show k0_off3 k 2 + 1 * (z 2).val = (z 2).val
        have e : k0_off3 k 2 = 0 := congrFun (off3_eq k) 2
        omega
      · have e : Fin.ofNat 16 k.val = ⟨k.val, hk⟩ := Fin.ext (Nat.mod_eq_of_lt hk)
        rw [e]
    · show (chunkNo y).val + 1 * (x 0).val = (chunkNo y).val
      have := hx0 x
      omega
    · show 0 + 1 * (x 1).val = (x 1).val
      omega
    · show 0 + 1 * (x 2).val = (x 2).val
      omega
    · rw [View.ld_unit_zero (by decide)]; rfl
  · funext x
    have hn := (chunkNo y).isLt
    refine (slabs2 c i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ (fun k => kvB (headRow x7 i) (rows x1 (Fin.ofNat 16 (15 - k))) (rows x2 (Fin.ofNat 16 (15 - k)))) ?_ f14 (15 - (chunkNo y).val) x _ ?_ ?_ ?_ 16 (by omega) le_rfl).trans ?_
    · intro k
      funext z
      have hk : 15 - k.val < 16 := by omega
      refine (slabList_read arg12.view _ _ ⟨15 - k.val, hk⟩ z _ ?_ ?_ ?_ 16 le_rfl hk).trans ?_
      · show k0_off4 k 0 + 1 * (z 0).val = 15 - k.val
        have e : k0_off4 k 0 = 15 - k.val := congrFun (off4_eq k) 0
        have := hx0 z
        omega
      · show k0_off4 k 1 + 1 * (z 1).val = (z 1).val
        have e : k0_off4 k 1 = 0 := congrFun (off4_eq k) 1
        omega
      · show k0_off4 k 2 + 1 * (z 2).val = (z 2).val
        have e : k0_off4 k 2 = 0 := congrFun (off4_eq k) 2
        omega
      · have e : Fin.ofNat 16 (15 - k.val) = ⟨15 - k.val, hk⟩ := Fin.ext (Nat.mod_eq_of_lt hk)
        rw [e]
    · show (chunkNo y).val + 1 * (x 0).val = 15 - (15 - (chunkNo y).val)
      have := hx0 x
      omega
    · show 0 + 1 * (x 1).val = (x 1).val
      omega
    · show 0 + 1 * (x 2).val = (x 2).val
      omega
    · rw [View.ld_unit_zero (by decide)]; rfl

end Reads

end Cert.KernelIdeal.Ret

end
-- ==== Proof.Launched.lean ====
module

public import proofs.«01_k».proof.Proof.Block
public import Idealize.ShloMosaic.Lib.Claim

/-! The launch: the one pipeline's proof data, whose output block at every grid point is `blockOut` of the point's
    input blocks, the body's obligation at a generic point, and the run of the whole program. -/

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block at grid point `t`. -/
def outAt (c : Dev nD) (t : Fin cfg0.N) : Vec F S1x1x4096x128 .bf16 :=
  blockOut (grid0.coords t) (iblk m c 0 t) (iblk m c 1 t) (iblk m c 2 t) (iblk m c 3 t) (iblk m c 4 t) (iblk m c 5 t) (iblk m c 6 t) (iblk m c 7 t)

/-- What is left between grid points: the scratch arrays at some contents, and the generator's register. -/
theorem between_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The proof data of the pipeline on core `c`: the arrays as the region finds them, each input's buffer left as it
    was, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- A buffer owned at some value is held raw at some contents. -/
theorem opened (c : Dev nD) {sp : Space} {sh : Shape} {e : EltTy} (M : Memref sig .tc sp sh e) (x : sh.Idx → Elt F e) :
    (owns (c : Thread nD τ) M fullShare x : sProp 𝕄) ⊢ iprop(∃ f, M.view.loc (c : Thread nD τ) ↦[M.view.set]{fullShare} f) := by
  unfold owns
  iintro ⟨%f, %hf, H⟩
  iexists _
  iexact H

/-- A buffer held raw at contents that read `x` is owned at `x`. -/
theorem reads (c : Dev nD) {sp : Space} {sh : Shape} {e : EltTy} (M : Memref sig .tc sp sh e) {f : M.view.ty.Contents (Elt F)} {x : sh.Idx → Elt F e}
    (hx : M.view.read (Elt F) f = x) : (M.view.loc (c : Thread nD τ) ↦[M.view.set]{fullShare} f : sProp 𝕄) ⊢ owns (c : Thread nD τ) M fullShare x := by
  unfold owns
  iintro H
  iexists _; isplitr; · ipureintro; exact hx
  iexact H

set_option maxHeartbeats 1600000 in
/-- The body at any point: the run applies to the point's blocks, and what it leaves in the output's buffer reads `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, between_eq]
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  icases (opened c (Memref.whole cc0_scratch0) e0) $$ HS0 with ⟨%f11, HS0⟩
  icases (opened c (Memref.whole cc0_scratch1) e1) $$ HS1 with ⟨%f12, HS1⟩
  icases (opened c (Memref.whole cc0_scratch2) e2) $$ HS2 with ⟨%f13, HS2⟩
  icases (opened c (Memref.whole cc0_scratch3) e3) $$ HS3 with ⟨%f14, HS3⟩
  icases (opened c (st0_8 t) _) $$ H8 with ⟨%f8, H8⟩
  iapply ((run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) f13 f14).2 Set.univ _ f8)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexists _; iexact HS1
  isplitl [HS2]; · iexact HS2
  isplitl [HS3]; · iexact HS3
  iintro ⟨H0, H1, H2, H3, H4, H5, H6, H7, H8, ⟨%g11, HS0⟩, ⟨%g12, HS1⟩, ⟨%g13, HS2⟩, ⟨%g14, HS3⟩⟩
  isplitl [HS0 HS1 HS2 HS3 Hg]
  · isplitl [HS0 HS1 HS2 HS3]
    isplitl [HS0]; · iexists _; iapply (reads c (Memref.whole cc0_scratch0) rfl); iexact HS0
    isplitl [HS1]; · iexists _; iapply (reads c (Memref.whole cc0_scratch1) rfl); iexact HS1
    isplitl [HS2]; · iexists _; iapply (reads c (Memref.whole cc0_scratch2) rfl); iexact HS2
    iexists _; iapply (reads c (Memref.whole cc0_scratch3) rfl); iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (reads c (st0_8 t) (run_reads c (grid0.coords t) _ _ _ _ _ _ _ _ _ _ _ _ _ _ _ _ _ _ _ _ _ _ _ _ _ _ _ _ _ _ _ _ _ _ f13 f14 f8))
  iexact H8

/-- The body table's row at point `t`'s slots is the body as `bodyAt0` spells it. -/
theorem body_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: it ends, with every array of the pipeline at what the proof data say, every other buffer as the region
    found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every argument ends as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Ret

end
-- ==== Proof.Decay.lean ====
module

public import Idealize.ShloMosaic.PureOps.Ideal.Laws
public import Idealize.ShloMosaic.Lib.IdealHost
public import Idealize.ShloMosaic.Lib.Pointwise
public import Mathlib.Algebra.BigOperators.Intervals

/-! The arithmetic of a decayed recurrence over the extended reals, with no program in it: the decay factor of a head and its
    powers, the state after any number of steps in closed form, and how a position's result, computed from a chunk's state
    and the chunk's own rows, depends on neither the chunk's length nor its place. -/

@[expose] public section

noncomputable section

namespace Cert.Retention

open Idealize.ShloMosaic Idealize.ShloMosaic.Tactic Finset

theorem exp_bot : Ideal.exp ⊥ = 0 := rfl

theorem exp_coe (r : ℝ) : Ideal.exp (r : EReal) = ((Real.exp r : ℝ) : EReal) := rfl

/-! ## The decay -/

/-- The logarithm of the logistic function, as the kernel computes it. -/
def lsig (x : EReal) : EReal := min x 0 - Ideal.log (1 + Ideal.exp (0 - max x (-x)))

/-- The softplus' logarithm is a real number at least 0. -/
theorem log_one_add_exp (x : EReal) : ∃ r : ℝ, 0 ≤ r ∧ Ideal.log (1 + Ideal.exp (0 - max x (-x))) = (r : EReal) := by
  obtain ⟨s, hs0, hs⟩ : ∃ s : ℝ, 0 ≤ s ∧ Ideal.exp (0 - max x (-x)) = (s : EReal) := by
    induction x with
    | bot => exact ⟨0, le_rfl, by simp [exp_bot]⟩
    | top => exact ⟨0, le_rfl, by simp [exp_bot]⟩
    | coe a =>
      refine ⟨Real.exp (0 - max a (-a)), (Real.exp_pos _).le, ?_⟩
      have : (0 : EReal) - max (a : EReal) (-(a : EReal)) = ((0 - max a (-a) : ℝ) : EReal) := by
        rw [← EReal.coe_neg, ← EReal.coe_strictMono.monotone.map_max, EReal.coe_sub, EReal.coe_zero]
      rw [this]; rfl
  refine ⟨Real.log (1 + s), Real.log_nonneg (by linarith), ?_⟩
  rw [hs, ← EReal.coe_one, ← EReal.coe_add]
  show (if 1 + s ≤ 0 then ⊥ else (Real.log (1 + s) : EReal)) = _
  rw [if_neg (by linarith)]

theorem lsig_ne_top (x : EReal) : lsig x ≠ ⊤ := by
  obtain ⟨r, -, hr⟩ := log_one_add_exp x
  unfold lsig
  rw [hr]
  have : min x 0 ≤ 0 := min_le_right _ _
  intro h
  have h' : min x 0 - (r : EReal) ≤ 0 - (r : EReal) := EReal.sub_le_sub this le_rfl
  rw [h, ← EReal.coe_zero, ← EReal.coe_sub] at h'
  exact absurd h' (not_le.mpr (EReal.coe_lt_top _))

/-- The logarithm of the logistic function, as the negated softplus of the negated argument. -/
theorem neg_softplus (x : EReal) : -(max (-x) 0 + Ideal.log (1 + Ideal.exp (-(max (-x - 0) (-(-x - 0)))))) = lsig x := by
  obtain ⟨r, -, hr⟩ := log_one_add_exp x
  have e : Ideal.log (1 + Ideal.exp (-(max (-x - 0) (-(-x - 0))))) = (r : EReal) := by
    rw [← hr, sub_zero, neg_neg, zero_sub, max_comm]
  unfold lsig
  rw [hr, e, EReal.neg_add (.inr (EReal.coe_ne_top r)) (.inr (EReal.coe_ne_bot r)),
    show -max (-x) 0 = min x 0 by
      rcases le_total x 0 with h | h
      · rw [max_eq_left (EReal.neg_le_neg_iff.mp (by simpa using h)), neg_neg, min_eq_left h]
      · rw [max_eq_right (EReal.neg_le_neg_iff.mp (by simpa using h)), neg_zero, min_eq_right h]]

/-- A head's decay factor. -/
def gam (x : EReal) : ℝ := (Ideal.exp (lsig x)).toReal

/-- The exponential of `n` times the logarithm is the decay factor's `n`-th power. -/
theorem exp_mul_lsig (n : ℕ) (x : EReal) : Ideal.exp (((n : ℝ) : EReal) * lsig x) = ((gam x ^ n : ℝ) : EReal) := by
  unfold gam
  have h := lsig_ne_top x
  generalize lsig x = l at h ⊢
  induction l with
  | top => exact absurd rfl h
  | coe a =>
    rw [← EReal.coe_mul]
    show ((Real.exp (n * a) : ℝ) : EReal) = ((((Real.exp a : ℝ) : EReal).toReal ^ n : ℝ) : EReal)
    rw [EReal.toReal_coe, Real.exp_nat_mul]
  | bot =>
    rcases Nat.eq_zero_or_pos n with rfl | hn
    · rw [Nat.cast_zero, EReal.coe_zero, zero_mul, ← EReal.coe_zero, exp_coe, Real.exp_zero, pow_zero]
    · rw [EReal.coe_mul_bot_of_pos (by exact_mod_cast hn)]
      rw [exp_bot, EReal.toReal_zero, zero_pow hn.ne', EReal.coe_zero]

/-! ## The recurrence in closed form -/

/-- A state entry after `n` steps from `S`: the entry decayed, and every step's part decayed since. -/
def closed (γ : ℝ) (S : EReal) (y : ℕ → ℝ) (n : ℕ) : EReal :=
  S * ((γ ^ n : ℝ) : EReal) + ((∑ s ∈ range n, γ ^ (n - 1 - s) * y s : ℝ) : EReal)

theorem closed_zero (γ : ℝ) (S : EReal) (y : ℕ → ℝ) : closed γ S y 0 = S := by
  simp [closed]

/-- A real factor goes into a sum whose second term is real. -/
theorem add_coe_mul (x : EReal) (r c : ℝ) : (x + (r : EReal)) * (c : EReal) = x * (c : EReal) + ((r * c : ℝ) : EReal) := by
  induction x with
  | coe a => rw [← EReal.coe_add, ← EReal.coe_mul, ← EReal.coe_mul, ← EReal.coe_add, add_mul]
  | bot =>
    rw [EReal.bot_add]
    rcases lt_trichotomy c 0 with h | rfl | h
    · rw [EReal.bot_mul_coe_of_neg h, EReal.top_add_coe]
    · simp
    · rw [EReal.bot_mul_coe_of_pos h, EReal.bot_add]
  | top =>
    rw [EReal.top_add_coe]
    rcases lt_trichotomy c 0 with h | rfl | h
    · rw [EReal.top_mul_coe_of_neg h, EReal.bot_add]
    · simp
    · rw [EReal.top_mul_coe_of_pos h, EReal.top_add_coe]

/-- `C` steps at once: the state decayed by `C` steps, and the `C` steps' parts. -/
theorem closed_step (γ : ℝ) (S : EReal) (y : ℕ → ℝ) (n C : ℕ) :
    closed γ S y n * ((γ ^ C : ℝ) : EReal) + ((∑ j ∈ range C, γ ^ (C - 1 - j) * y (n + j) : ℝ) : EReal) = closed γ S y (n + C) := by
  unfold closed
  rw [add_coe_mul, mul_assoc, ← EReal.coe_mul, ← pow_add, add_assoc, ← EReal.coe_add, sum_range_add]
  congr 3
  congr 1
  · rw [sum_mul]
    refine sum_congr rfl fun s hs => ?_
    have := mem_range.mp hs
    rw [mul_right_comm, ← pow_add]
    congr 2
    omega
  · refine sum_congr rfl fun s hs => ?_
    have := mem_range.mp hs
    congr 2
    omega

/-- A state that starts at `S` and takes `C` steps at once each time is the closed form at every multiple of `C`. -/
theorem closed_iterate (γ : ℝ) (S : EReal) (y : ℕ → ℝ) (C N : ℕ) (st : ℕ → EReal) (h0 : st 0 = S)
    (hs : ∀ n < N, st (n + 1) = st n * ((γ ^ C : ℝ) : EReal) + ((∑ j ∈ range C, γ ^ (C - 1 - j) * y (C * n + j) : ℝ) : EReal)) :
    ∀ n ≤ N, st n = closed γ S y (C * n)
  | 0, _ => by rw [h0, Nat.mul_zero, closed_zero]
  | n + 1, h => by
    rw [hs n h, closed_iterate γ S y C N st h0 hs n (Nat.le_of_lt h), closed_step, Nat.mul_succ]

/-- What a query, decayed by `t + 1` steps, reads from the closed states after `n` steps: the first states' part, and the
    real sum over the `n` steps. -/
theorem query_closed {D : Type} [Fintype D] (γ : ℝ) (S : D → EReal) (q : D → ℝ) (k : ℕ → D → ℝ) (v : ℕ → ℝ) (n t : ℕ) :
    ∑ d, (q d : EReal) * ((γ ^ (t + 1) : ℝ) : EReal) * closed γ (S d) (fun s => k s d * v s) n
      = ∑ d, S d * ((q d * γ ^ (n + t + 1) : ℝ) : EReal)
        + ((∑ s ∈ range n, γ ^ (n + t - s) * ((∑ d, q d * k s d) * v s) : ℝ) : EReal) := by
  have e : ∀ d, (q d : EReal) * ((γ ^ (t + 1) : ℝ) : EReal) * closed γ (S d) (fun s => k s d * v s) n
      = S d * ((q d * γ ^ (n + t + 1) : ℝ) : EReal) + ((∑ s ∈ range n, γ ^ (n + t - s) * (q d * k s d * v s) : ℝ) : EReal) := by
    intro d
    unfold closed
    rw [← EReal.coe_mul, mul_comm, add_coe_mul, mul_assoc, ← EReal.coe_mul]
    congr 2
    · congr 1
      rw [show n + t + 1 = n + (t + 1) from rfl, pow_add]
      ring
    · rw [sum_mul]
      refine sum_congr rfl fun s hs => ?_
      have := mem_range.mp hs
      rw [show n + t - s = (n - 1 - s) + (t + 1) by omega, pow_add]
      ring
  have hc : ∀ f : D → ℝ, ∑ d, ((f d : ℝ) : EReal) = ((∑ d, f d : ℝ) : EReal) := fun f =>
    (map_sum (⟨⟨fun r : ℝ => (r : EReal), EReal.coe_zero⟩, EReal.coe_add⟩ : ℝ →+ EReal) f univ).symm
  rw [sum_congr rfl fun d _ => e d, sum_add_distrib, hc, sum_comm]
  congr 2
  refine sum_congr rfl fun s _ => ?_
  rw [← mul_sum, sum_mul]

/-- A finite sum of reals, as a sum of extended reals. -/
theorem coe_sum {ι : Type} (S : Finset ι) (f : ι → ℝ) : ((∑ i ∈ S, f i : ℝ) : EReal) = ∑ i ∈ S, (f i : EReal) :=
  map_sum (⟨⟨fun r : ℝ => (r : EReal), EReal.coe_zero⟩, EReal.coe_add⟩ : ℝ →+ EReal) f S

/-- A sum over `Fin n` of reals, as one real over the numbers below `n`. -/
theorem sum_fin_coe {n : ℕ} (g : Fin n → EReal) (f : ℕ → ℝ) (h : ∀ i : Fin n, g i = (f i : EReal)) :
    ∑ i, g i = ((∑ s ∈ range n, f s : ℝ) : EReal) := by
  rw [coe_sum, ← Fin.sum_univ_eq_sum_range (fun s => (f s : EReal))]
  exact sum_congr rfl fun i _ => h i

/-! ## A chunk's own rows -/

/-- The rows up to `t` and the rows after it, the latter counted from the chunk's end. -/
theorem rows_split (C t : ℕ) (ht : t < C) (f g : ℕ → ℝ) :
    ∑ s ∈ range C, (if s ≤ t then f s else g s) = ∑ s ∈ range (t + 1), f s + ∑ s ∈ range (C - 1 - t), g (C - 1 - s) := by
  rw [show range C = range ((t + 1) + (C - 1 - t)) by congr 1; omega, sum_range_add]
  congr 1
  · exact sum_congr rfl fun s hs => if_pos (Nat.lt_succ_iff.mp (mem_range.mp hs))
  · rw [← sum_range_reflect]
    refine sum_congr rfl fun s hs => ?_
    have := mem_range.mp hs
    rw [if_neg (by omega)]
    congr 1
    omega

/-- The first `n` rows and the chunk's rows up to `t` are the rows up to `n + t`. -/
theorem rows_join (γ : ℝ) (x : ℕ → ℝ) (n t b : ℕ) :
    ∑ s ∈ range n, γ ^ (n + t - s) * x s + ∑ s ∈ range b, γ ^ (t - s) * x (n + s) = ∑ s ∈ range (n + b), γ ^ (n + t - s) * x s := by
  rw [sum_range_add]
  congr 1
  refine sum_congr rfl fun s _ => ?_
  rw [Nat.add_sub_add_left]

/-! ## A position's result -/

/-- The retention's result at position `T` of `L`, before the norm, at one column: the two first states' parts, and the
    sums over the positions up to `T` and over those after it, the latter counted from the end. -/
def mid {D : Type} [Fintype D] (L : ℕ) (γf γb : ℝ) (Sf Sb : D → EReal) (q : D → ℝ) (k : ℕ → D → ℝ) (v : ℕ → ℝ) (T : ℕ) : EReal :=
  (∑ d, Sf d * ((q d * γf ^ (T + 1) : ℝ) : EReal)
    + ((∑ s ∈ range (T + 1), γf ^ (T - s) * ((∑ d, q d * k s d) * v s) : ℝ) : EReal))
  + (∑ d, Sb d * ((q d * γb ^ (L - T) : ℝ) : EReal)
    + ((∑ s ∈ range (L - 1 - T), γb ^ (L - 1 - T - s) * ((∑ d, q d * k (L - 1 - s) d) * v (L - 1 - s)) : ℝ) : EReal))

/-- A chunk's result with both directions in one pass over its rows, as the kernel computes it. -/
theorem mid_of_block {D : Type} [Fintype D] (C N : ℕ) (γf γb : ℝ) (Sf Sb : D → EReal) (q : D → ℝ) (k : ℕ → D → ℝ) (v : ℕ → ℝ)
    (n t : ℕ) (hn : n < N) (ht : t < C) :
    ((∑ s ∈ range C, (∑ d, q d * k (C * n + s) d) * (if s ≤ t then γf ^ (t - s) else γb ^ (s - t)) * v (C * n + s) : ℝ) : EReal)
      + ∑ d, (q d : EReal) * ((γf ^ (t + 1) : ℝ) : EReal) * closed γf (Sf d) (fun s => k s d * v s) (C * n)
      + ∑ d, (q d : EReal) * ((γb ^ (C - t) : ℝ) : EReal)
          * closed γb (Sb d) (fun s => k (C * N - 1 - s) d * v (C * N - 1 - s)) (C * (N - 1 - n))
    = mid (C * N) γf γb Sf Sb q k v (C * n + t) := by
  obtain ⟨p, rfl⟩ : ∃ p, N = n + 1 + p := ⟨N - (n + 1), by omega⟩
  have hN : C * (n + 1 + p) = C * n + C + C * p := by ring
  have e1 : C - t = (C - 1 - t) + 1 := by omega
  have e2 : n + 1 + p - 1 - n = p := by omega
  rw [e1, e2, query_closed γf Sf q k v (C * n) t,
    query_closed γb Sb q (fun s => k (C * (n + 1 + p) - 1 - s)) (fun s => v (C * (n + 1 + p) - 1 - s)) (C * p) (C - 1 - t)]
  unfold mid
  have hintra : (∑ s ∈ range C, (∑ d, q d * k (C * n + s) d) * (if s ≤ t then γf ^ (t - s) else γb ^ (s - t)) * v (C * n + s) : ℝ)
      = ∑ s ∈ range (t + 1), γf ^ (t - s) * ((∑ d, q d * k (C * n + s) d) * v (C * n + s))
        + ∑ s ∈ range (C - 1 - t), γb ^ (C - 1 - t - s)
          * ((∑ d, q d * k (C * (n + 1 + p) - 1 - (C * p + s)) d) * v (C * (n + 1 + p) - 1 - (C * p + s))) := by
    rw [show (∑ s ∈ range C, (∑ d, q d * k (C * n + s) d) * (if s ≤ t then γf ^ (t - s) else γb ^ (s - t)) * v (C * n + s) : ℝ)
      = ∑ s ∈ range C, (if s ≤ t then γf ^ (t - s) * ((∑ d, q d * k (C * n + s) d) * v (C * n + s))
          else γb ^ (s - t) * ((∑ d, q d * k (C * n + s) d) * v (C * n + s))) from
      sum_congr rfl fun s _ => by split_ifs <;> ring, rows_split C t ht]
    congr 1
    refine sum_congr rfl fun s hs => ?_
    have := mem_range.mp hs
    rw [show C * n + (C - 1 - s) = C * (n + 1 + p) - 1 - (C * p + s) by rw [hN]; omega, show C - 1 - s - t = C - 1 - t - s by omega]
  rw [hintra, show C * (n + 1 + p) - 1 - (C * n + t) = C * p + (C - 1 - t) by rw [hN]; omega,
    ← rows_join γb (fun s => (∑ d, q d * k (C * (n + 1 + p) - 1 - s) d) * v (C * (n + 1 + p) - 1 - s)) (C * p) (C - 1 - t) (C - 1 - t),
    show C * n + t + 1 = C * n + (t + 1) from rfl,
    ← rows_join γf (fun s => (∑ d, q d * k s d) * v s) (C * n) t (t + 1),
    show C * (n + 1 + p) - (C * n + t) = C * p + (C - 1 - t) + 1 by rw [hN]; omega]
  simp only [EReal.coe_add]
  abel

/-- A chunk's result in one direction, over the rows up to its own, as the reference computes it: with the rows strictly
    before it (`b = t`) or with its own too (`b = t + 1`). -/
theorem dir_of_chunk {D : Type} [Fintype D] (C : ℕ) (γ : ℝ) (S : D → EReal) (q : D → ℝ) (k : ℕ → D → ℝ) (v : ℕ → ℝ)
    (n t b : ℕ) (hb : b ≤ C) :
    ((∑ s ∈ range C, (∑ d, q d * k (C * n + s) d) * (if s < b then γ ^ (t - s) else 0) * v (C * n + s) : ℝ) : EReal)
      + ∑ d, (q d : EReal) * ((γ ^ (t + 1) : ℝ) : EReal) * closed γ (S d) (fun s => k s d * v s) (C * n)
    = ∑ d, S d * ((q d * γ ^ (C * n + t + 1) : ℝ) : EReal)
      + ((∑ s ∈ range (C * n + b), γ ^ (C * n + t - s) * ((∑ d, q d * k s d) * v s) : ℝ) : EReal) := by
  have hintra : (∑ s ∈ range C, (∑ d, q d * k (C * n + s) d) * (if s < b then γ ^ (t - s) else 0) * v (C * n + s) : ℝ)
      = ∑ s ∈ range b, γ ^ (t - s) * ((∑ d, q d * k (C * n + s) d) * v (C * n + s)) := by
    rw [show range C = range (b + (C - b)) by congr 1; omega, sum_range_add]
    rw [show (∑ s ∈ range (C - b), (∑ d, q d * k (C * n + (b + s)) d) * (if b + s < b then γ ^ (t - (b + s)) else 0) * v (C * n + (b + s)) : ℝ) = 0 from
      sum_eq_zero fun s _ => by rw [if_neg (by omega)]; ring, add_zero]
    refine sum_congr rfl fun s hs => ?_
    rw [if_pos (mem_range.mp hs)]
    ring
  rw [query_closed, hintra, ← rows_join γ (fun s => (∑ d, q d * k s d) * v s) (C * n) t b]
  simp only [EReal.coe_add]
  abel

/-! ## The norm and the gate -/

/-- A row's root-mean-square norm, gated: the entry times the reciprocal root of the mean square, times the gate's
    sigmoid-weighted value. -/
def tail (o : Fin 128 → EReal) (g : EReal) (e : Fin 128) : EReal :=
  o e * Ideal.rsqrt (Ideal.div (∑ x, o x * o x) (Ideal.ofBits .f32 1124073472#32) + Ideal.ofBits .f32 897988541#32)
    * Ideal.div g (1 + Ideal.exp (0 - g))

/-! ## The whole result -/

/-- The shapes of a head-split array, of the states and of the decay parameters. -/
abbrev TOK : Shape := ⟨4, ![16, 4, 4096, 128]⟩
abbrev STA : Shape := ⟨4, ![16, 4, 128, 128]⟩
abbrev DEC : Shape := ⟨1, ![4]⟩

/-- An array's entries of one batch element and head, as real numbers. -/
def seq (x : TOK.Idx → EReal) (b : Fin 16) (h : Fin 4) (s : ℕ) (d : Fin 128) : ℝ := (x (ix4 b h (Fin.ofNat 4096 s) d)).toReal

/-- Every entry is a real number. -/
def IsReal (x : TOK.Idx → EReal) : Prop := ∀ j, x j ≠ ⊤ ∧ x j ≠ ⊥

theorem seq_coe {x : TOK.Idx → EReal} (hx : IsReal x) (b : Fin 16) (h : Fin 4) (s : Fin 4096) (d : Fin 128) :
    x (ix4 b h s d) = (seq x b h s.val d : EReal) := by
  unfold seq
  rw [show Fin.ofNat 4096 s.val = s from Fin.ext (Nat.mod_eq_of_lt s.isLt), EReal.coe_toReal (hx _).1 (hx _).2]

/-- The retention layer's result, from queries, keys, values, gates, the two first states and the decay parameters. -/
def result (q k v g : TOK.Idx → EReal) (sf sb : STA.Idx → EReal) (df db : DEC.Idx → EReal) (b : Fin 16) (h : Fin 4) (s : Fin 4096) (e : Fin 128) : EReal :=
  tail (fun e => mid 4096 (gam (df (ix1 h))) (gam (db (ix1 h))) (fun d => sf (ix4 b h d e)) (fun d => sb (ix4 b h d e))
    (seq q b h s.val) (seq k b h) (fun s => seq v b h s e) s.val) (g (ix4 b h s e)) e

/-! ## Numbers as the programs print them -/

theorem toInt_ofNat (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- A small number, converted from its word. -/
theorem sitofp_ofNat (n : ℕ) (h : n < 2 ^ 31) : FloatOps.sitofp (F := Ideal) .f32 (BitVec.ofNat 32 n) = ((n : ℝ) : EReal) := by
  show (((BitVec.ofNat 32 n).toInt : ℝ) : EReal) = _
  rw [toInt_ofNat n h]
  norm_cast

theorem ofBits_255 : Ideal.ofBits .f32 1132396544#32 = ((255 : ℝ) : EReal) := by
  simp [Ideal.ofBits, Ideal.ieee, -EReal.coe_mul]; norm_num

theorem ofBits_256 : Ideal.ofBits .f32 1132462080#32 = ((256 : ℝ) : EReal) := by
  simp [Ideal.ofBits, Ideal.ieee, -EReal.coe_mul]; norm_num

theorem ofBits_127 : Ideal.ofBits .f32 1123942400#32 = ((127 : ℝ) : EReal) := by
  simp [Ideal.ofBits, Ideal.ieee, -EReal.coe_mul]; norm_num

theorem ofBits_128 : Ideal.ofBits .f32 1124073472#32 = ((128 : ℝ) : EReal) := by
  simp [Ideal.ofBits, Ideal.ieee, -EReal.coe_mul]; norm_num

end Cert.Retention

end
-- ==== Proof.BlockValue.lean ====
module

public import proofs.«01_k».proof.Proof.Block
public import proofs.«01_k».proof.Proof.Decay

/-! The block in closed form: at the ideal values, a row of the output block is the retention's result at the row's
    position, normed and gated, wherever the queries, keys and values are real numbers. -/

@[expose] public section

set_option maxRecDepth 16384

noncomputable section

namespace Cert.KernelIdeal.Ret

open Idealize.ShloMosaic Idealize.ShloMosaic.TcCoe Idealize.ShloMosaic.Tactic Finset Cert.Retention
open Cert.KernelIdeal Cert.KernelIdeal.Gen

/-! ## The tables of decay powers -/

section Tables

variable (a b : Vec Ideal S1x128 .f32) (x y : EReal) (ha : ∀ d : Fin 128, a (ix2 0 d) = x) (hb : ∀ d : Fin 128, b (ix2 0 d) = y)

include ha in
theorem pay1_at (d : Fin 128) : k0_pay1 a (ix2 0 d) = lsig x := by
  unfold k0_pay1; pointwise
  rw [ha]; rfl

include hb in
theorem pay2_at (d : Fin 128) : k0_pay2 b (ix2 0 d) = lsig y := by
  unfold k0_pay2; pointwise
  rw [hb]; rfl

include ha in
theorem zetaF_at (t : Fin 256) (d : Fin 128) : zetaF a (ix2 t d) = ((gam x ^ (255 - t.val) : ℝ) : EReal) := by
  unfold zetaF k0_pay7 k0_pay3; pointwise
  rw [pay1_at a x ha, sitofp_ofNat _ (by omega), ofBits_255, ← EReal.coe_sub, ← exp_mul_lsig,
    Nat.cast_sub (by omega)]
  norm_num

include hb in
theorem zetaB_at (t : Fin 256) (d : Fin 128) : zetaB b (ix2 t d) = ((gam y ^ t.val : ℝ) : EReal) := by
  unfold zetaB k0_pay8 k0_pay3; pointwise
  rw [pay2_at b y hb, sitofp_ofNat _ (by omega), ← exp_mul_lsig]

include ha in
theorem xiF_at (t : Fin 256) (d : Fin 128) : xiF a (ix2 t d) = ((gam x ^ (t.val + 1) : ℝ) : EReal) := by
  unfold xiF k0_pay9 k0_pay3; pointwise
  rw [pay1_at a x ha, sitofp_ofNat _ (by omega), ← exp_mul_lsig, Nat.cast_add, Nat.cast_one, EReal.coe_add, EReal.coe_one]

include hb in
theorem xiB_at (t : Fin 256) (d : Fin 128) : xiB b (ix2 t d) = ((gam y ^ (256 - t.val) : ℝ) : EReal) := by
  unfold xiB k0_pay10 k0_pay3; pointwise
  rw [pay2_at b y hb, sitofp_ofNat _ (by omega), ofBits_256, ← EReal.coe_sub, ← exp_mul_lsig, Nat.cast_sub (by omega)]
  norm_num

include ha in
theorem cdF_at (d : Fin 128) : cdF a (ix2 0 d) = ((gam x ^ 256 : ℝ) : EReal) := by
  unfold cdF k0_pay12; pointwise
  rw [pay1_at a x ha, ofBits_256, ← exp_mul_lsig]
  norm_num

include hb in
theorem cdB_at (d : Fin 128) : cdB b (ix2 0 d) = ((gam y ^ 256 : ℝ) : EReal) := by
  unfold cdB k0_pay13; pointwise
  rw [pay2_at b y hb, ofBits_256, ← exp_mul_lsig]
  norm_num

/-- The difference of two small numbers, converted from its word. -/
theorem sitofp_sub (t s : Fin 256) : FloatOps.sitofp (F := Ideal) .f32 (IntOp.subi (BitVec.ofNat 32 t.val) (BitVec.ofNat 32 s.val))
    = (((t.val : ℝ) - (s.val : ℝ) : ℝ) : EReal) := by
  show (((BitVec.ofNat 32 t.val - BitVec.ofNat 32 s.val).toInt : ℝ) : EReal) = _
  rw [BitVec.toInt_sub, toInt_ofNat _ (by omega), toInt_ofNat _ (by omega), Int.bmod_eq_of_le (by omega) (by omega)]
  norm_cast

include ha hb in
theorem decay_at (t s : Fin 256) :
    decay a b (ix2 t s) = (((if s.val ≤ t.val then gam x ^ (t.val - s.val) else gam y ^ (s.val - t.val)) : ℝ) : EReal) := by
  unfold decay k0_pay11 k0_pay4 k0_pay5 k0_pay6; pointwise
  rw [sitofp_sub]
  simp only [pay1_at a x ha, pay2_at b y hb, dite_eq_ite, ite_self]
  have h0 : (0 : EReal) ≤ (((t.val : ℝ) - (s.val : ℝ) : ℝ) : EReal) ↔ s.val ≤ t.val := by
    rw [← EReal.coe_zero, EReal.coe_le_coe_iff, sub_nonneg, Nat.cast_le]
  by_cases h : s.val ≤ t.val
  · rw [if_pos (h0.mpr h), if_pos h, ← exp_mul_lsig, Nat.cast_sub h]
  · rw [if_neg (fun h' => h (h0.mp h')), if_neg h, ← exp_mul_lsig, Nat.cast_sub (by omega), ← EReal.coe_zero, ← EReal.coe_sub]
    congr 3
    ring

end Tables

/-! ## The states -/

theorem rows_at (z : Vec Ideal S1x1x4096x128 .bf16) (n : Fin 16) (t : Fin 256) (d : Fin 128) :
    rows z n (ix4 0 0 t d) = z (ix4 0 0 ⟨256 * n.val + t.val, by omega⟩ d) := by
  unfold rows; pointwise

section States

variable (i : grid0.Coords) (x0 x1 x2 x3 : Vec Ideal S1x1x4096x128 .bf16) (x4 x5 : Vec Ideal S1x1x128x128 .f32) (x6 x7 : Vec Ideal S4x128 .f32)
  (x y : EReal) (hx : ∀ d : Fin 128, headRow x6 i (ix2 0 d) = x) (hy : ∀ d : Fin 128, headRow x7 i (ix2 0 d) = y)
  (Q K W : ℕ → Fin 128 → ℝ) (hQ : ∀ (s : Fin 4096) d, x0 (ix4 0 0 s d) = (Q s.val d : EReal))
  (hK : ∀ (s : Fin 4096) d, x1 (ix4 0 0 s d) = (K s.val d : EReal)) (hW : ∀ (s : Fin 4096) d, x2 (ix4 0 0 s d) = (W s.val d : EReal))

include hK in
theorem rowsK (n : Fin 16) (t : Fin 256) (d : Fin 128) : rows x1 n (ix4 0 0 t d) = (K (256 * n.val + t.val) d : EReal) := by
  rw [rows_at, hK]

include hx hK hW in
/-- The forward state before chunk `n`. -/
theorem stF_at (d e : Fin 128) (n : ℕ) (hn : n ≤ 16) :
    stF i x1 x2 x4 x6 n (ix2 d e) = closed (gam x) (x4 (ix4 0 0 d e)) (fun s => K s d * W s e) (256 * n) := by
  refine closed_iterate (gam x) _ _ 256 16 (fun n => stF i x1 x2 x4 x6 n (ix2 d e)) ?_ (fun n hn => ?_) n hn
  · show k0_pay83 x4 (ix2 d e) = _
    unfold k0_pay83; pointwise
  · show k0_pay85 (cdF (headRow x6 i)) (stF i x1 x2 x4 x6 n) (kvF (headRow x6 i) (rows x1 (Fin.ofNat 16 n)) (rows x2 (Fin.ofNat 16 n))) (ix2 d e) = _
    unfold k0_pay85; pointwise
    rw [cdF_at _ x hx]
    congr 1
    unfold kvF k0_pay16 k0_pay14 k0_pay15; pointwise
    refine sum_fin_coe _ _ fun t => ?_
    rw [rowsK _ K hK, rowsK _ W hW, zetaF_at _ x hx, ← EReal.coe_mul, ← EReal.coe_mul, show (Fin.ofNat 16 n).val = n from Nat.mod_eq_of_lt hn]
    congr 1
    ring

include hy hK hW in
/-- The backward state after chunk `15 - n`. -/
theorem stB_at (d e : Fin 128) (n : ℕ) (hn : n ≤ 16) :
    stB i x1 x2 x5 x7 n (ix2 d e) = closed (gam y) (x5 (ix4 0 0 d e)) (fun s => K (4095 - s) d * W (4095 - s) e) (256 * n) := by
  refine closed_iterate (gam y) _ _ 256 16 (fun n => stB i x1 x2 x5 x7 n (ix2 d e)) ?_ (fun n hn => ?_) n hn
  · show k0_pay86 x5 (ix2 d e) = _
    unfold k0_pay86; pointwise
  · show k0_pay88 (cdB (headRow x7 i)) (stB i x1 x2 x5 x7 n) (kvB (headRow x7 i) (rows x1 (Fin.ofNat 16 (15 - n))) (rows x2 (Fin.ofNat 16 (15 - n)))) (ix2 d e) = _
    unfold k0_pay88; pointwise
    rw [cdB_at _ y hy]
    congr 1
    unfold kvB k0_pay18 k0_pay17 k0_pay14 k0_pay15; pointwise
    rw [← sum_range_reflect]
    refine sum_fin_coe _ _ fun t => ?_
    rw [rowsK _ K hK, rowsK _ W hW, zetaB_at _ y hy, ← EReal.coe_mul, ← EReal.coe_mul,
      show (Fin.ofNat 16 (15 - n)).val = 15 - n from Nat.mod_eq_of_lt (by omega)]
    have := t.isLt
    congr 1
    rw [show 256 - 1 - (256 - 1 - t.val) = t.val by omega, show 4095 - (256 * n + (256 - 1 - t.val)) = 256 * (15 - n) + t.val by omega]
    ring

/-! ## The rows -/

include hx hy hQ hK hW in
/-- A row of the output block. -/
theorem blockOut_at (s : Fin 4096) (e : Fin 128) :
    blockOut i x0 x1 x2 x3 x4 x5 x6 x7 (ix4 0 0 s e)
      = tail (fun e => mid 4096 (gam x) (gam y) (fun d => x4 (ix4 0 0 d e)) (fun d => x5 (ix4 0 0 d e)) (Q s.val) K (fun s => W s e) s.val)
          (x3 (ix4 0 0 s e)) e := by
  obtain ⟨n, t, hs⟩ : ∃ (n : Fin 16) (t : Fin 256), s.val = 256 * n.val + t.val :=
    ⟨⟨s.val / 256, by omega⟩, ⟨s.val % 256, by omega⟩, (Nat.div_add_mod s.val 256).symm⟩
  have hn : chunkNo (ix4 0 0 s e) = n := Fin.ext (show s.val / 256 = n.val by omega)
  have ht : chunkIdx (ix4 0 0 s e) = ix4 0 0 t e := by
    have : (⟨s.val % 256, Nat.mod_lt _ (by decide)⟩ : Fin 256) = t := Fin.ext (show s.val % 256 = t.val by omega)
    show ix4 (0 : Fin 1) (0 : Fin 1) (⟨s.val % 256, Nat.mod_lt _ (by decide)⟩ : Fin 256) e = _
    rw [this]
  have hs' : (⟨256 * n.val + t.val, by omega⟩ : Fin 4096) = s := Fin.ext hs.symm
  show chunkOf i x0 x1 x2 x3 x4 x5 x6 x7 (chunkNo (ix4 0 0 s e)) (chunkIdx (ix4 0 0 s e)) = _
  rw [hn, ht]
  unfold chunkOf chunkOut k0_pay98 k0_pay97 k0_pay96 k0_pay95 k0_pay84 k0_pay87; pointwise
  have key : ∀ e, ∑ z, (∑ w, rows x0 n (ix4 0 0 t w) * rows x1 n (ix4 0 0 z w)) * decay (headRow x6 i) (headRow x7 i) (ix2 t z) * rows x2 n (ix4 0 0 z e)
      + ∑ d, rows x0 n (ix4 0 0 t d) * xiF (headRow x6 i) (ix2 t d) * stF i x1 x2 x4 x6 n.val (ix2 d e)
      + ∑ d, rows x0 n (ix4 0 0 t d) * xiB (headRow x7 i) (ix2 t d) * stB i x1 x2 x5 x7 (15 - n.val) (ix2 d e)
      = mid 4096 (gam x) (gam y) (fun d => x4 (ix4 0 0 d e)) (fun d => x5 (ix4 0 0 d e)) (Q s.val) K (fun s => W s e) s.val := by
    intro e
    rw [hs, ← mid_of_block 256 16 (gam x) (gam y) _ _ (Q (256 * n.val + t.val)) K (fun s => W s e) n.val t.val n.isLt t.isLt]
    congr 1
    · congr 1
      · refine sum_fin_coe _ _ fun z => ?_
        rw [show ∑ w, rows x0 n (ix4 0 0 t w) * rows x1 n (ix4 0 0 z w) = ((∑ w, Q (256 * n.val + t.val) w * K (256 * n.val + z.val) w : ℝ) : EReal) by
          rw [coe_sum]
          exact sum_congr rfl fun w _ => by rw [rowsK _ Q hQ, rowsK _ K hK, EReal.coe_mul],
          decay_at _ _ x y hx hy, rowsK _ W hW, ← EReal.coe_mul, ← EReal.coe_mul]
      · exact sum_congr rfl fun d _ => by rw [rowsK _ Q hQ, xiF_at _ x hx, stF_at i x1 x2 x4 x6 x hx K W hK hW d e n.val (by omega)]
    · exact sum_congr rfl fun d _ => by rw [rowsK _ Q hQ, xiB_at _ y hy, stB_at i x1 x2 x5 x7 y hy K W hK hW d e (15 - n.val) (by omega)]
  simp only [key]
  rw [rows_at, hs']
  rfl

end States

end Cert.KernelIdeal.Ret

end
-- ==== Proof.ArrayValue.lean ====
module

public import proofs.«01_k».proof.Proof.Launched
public import proofs.«01_k».proof.Proof.BlockValue
public import Idealize.ShloMosaic.Lib.Pipeline.ValueKit
public import Idealize.ShloMosaic.Lib.StableHlo.RunRead

/-! The array in closed form: at the end of the kernel's run, with real queries, keys and values, its result is the
    retention layer's of the arguments. -/

@[expose] public section

set_option maxRecDepth 16384

noncomputable section

namespace Cert.KernelIdeal.Ret

open Idealize.ShloMosaic Idealize.ShloMosaic.TcCoe Idealize.ShloMosaic.Tactic Idealize.ShloMosaic.StableHlo Cert.Retention
open Idealize.SL.Sem
open Cert.KernelIdeal Cert.KernelIdeal.Gen

variable (m : (ℓ : Loc nD τ sig) → Buf (Elt Ideal) ℓ) (ρ : Dev nD → PrngReg)

/-- An argument's contents at the launch. -/
abbrev arg (c : Dev nD) (b : Ref sig .tc) := m ((c.tc : Thread nD τ).loc b)

/-- The batch element and the head of a grid point. -/
abbrev bat (t : Fin cfg0.N) : Fin 16 := ⟨(grid0.coords t 0).val, (grid0.coords t 0).isLt⟩
abbrev head (t : Fin cfg0.N) : Fin 4 := ⟨(grid0.coords t 1).val, (grid0.coords t 1).isLt⟩

theorem index0 : ∀ t : Fin cfg0.N, win0_0.index t = ![(grid0.coords t 0).val, (grid0.coords t 1).val, 0, 0] := (by decide +kernel : ∀ t : Fin grid0.N, _)
theorem index1 : ∀ t : Fin cfg0.N, win0_1.index t = ![(grid0.coords t 0).val, (grid0.coords t 1).val, 0, 0] := (by decide +kernel : ∀ t : Fin grid0.N, _)
theorem index2 : ∀ t : Fin cfg0.N, win0_2.index t = ![(grid0.coords t 0).val, (grid0.coords t 1).val, 0, 0] := (by decide +kernel : ∀ t : Fin grid0.N, _)
theorem index3 : ∀ t : Fin cfg0.N, win0_3.index t = ![(grid0.coords t 0).val, (grid0.coords t 1).val, 0, 0] := (by decide +kernel : ∀ t : Fin grid0.N, _)
theorem index4 : ∀ t : Fin cfg0.N, win0_4.index t = ![(grid0.coords t 0).val, (grid0.coords t 1).val, 0, 0] := (by decide +kernel : ∀ t : Fin grid0.N, _)
theorem index5 : ∀ t : Fin cfg0.N, win0_5.index t = ![(grid0.coords t 0).val, (grid0.coords t 1).val, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![(grid0.coords t 0).val, (grid0.coords t 1).val, 0, 0] := (by decide +kernel : ∀ t : Fin grid0.N, _)

theorem off1_eq : ∀ t : Fin cfg0.N, k0_off1 (grid0.coords t) = ![(grid0.coords t 1).val, 0] := (by decide +kernel : ∀ t : Fin grid0.N, _)

theorem blk0 (c : Dev nD) (t : Fin cfg0.N) (s : Fin 4096) (d : Fin 128) :
    iblk m c 0 t (ix4 0 0 s d) = arg m c main_arg0 (ix4 (bat t) (head t) s d) := by
  show _ = m ((c : Thread nD τ).loc main_arg0) _
  rw [← V_main_arg0 m c]
  blk_simp [iblk]
  congr 1
  blk_ext [index0]

theorem blk1 (c : Dev nD) (t : Fin cfg0.N) (s : Fin 4096) (d : Fin 128) :
    iblk m c 1 t (ix4 0 0 s d) = arg m c main_arg1 (ix4 (bat t) (head t) s d) := by
  show _ = m ((c : Thread nD τ).loc main_arg1) _
  rw [← V_main_arg1 m c]
  blk_simp [iblk]
  congr 1
  blk_ext [index1]

theorem blk2 (c : Dev nD) (t : Fin cfg0.N) (s : Fin 4096) (d : Fin 128) :
    iblk m c 2 t (ix4 0 0 s d) = arg m c main_arg2 (ix4 (bat t) (head t) s d) := by
  show _ = m ((c : Thread nD τ).loc main_arg2) _
  rw [← V_main_arg2 m c]
  blk_simp [iblk]
  congr 1
  blk_ext [index2]

theorem blk3 (c : Dev nD) (t : Fin cfg0.N) (s : Fin 4096) (d : Fin 128) :
    iblk m c 3 t (ix4 0 0 s d) = arg m c main_arg3 (ix4 (bat t) (head t) s d) := by
  show _ = m ((c : Thread nD τ).loc main_arg3) _
  rw [← V_main_arg3 m c]
  blk_simp [iblk]
  congr 1
  blk_ext [index3]

theorem blk4 (c : Dev nD) (t : Fin cfg0.N) (s d : Fin 128) :
    iblk m c 4 t (ix4 0 0 s d) = arg m c main_arg4 (ix4 (bat t) (head t) s d) := by
  show _ = m ((c : Thread nD τ).loc main_arg4) _
  rw [← V_main_arg4 m c]
  blk_simp [iblk]
  congr 1
  blk_ext [index4]

theorem blk5 (c : Dev nD) (t : Fin cfg0.N) (s d : Fin 128) :
    iblk m c 5 t (ix4 0 0 s d) = arg m c main_arg5 (ix4 (bat t) (head t) s d) := by
  show _ = m ((c : Thread nD τ).loc main_arg5) _
  rw [← V_main_arg5 m c]
  blk_simp [iblk]
  congr 1
  blk_ext [index5]

/-- Row `h` of a decay table is the head's parameter. -/
theorem V_v1 (c : Dev nD) (h : Fin 4) (d : Fin 128) : V m c main_v1 (ix2 h d) = arg m c main_arg6 (ix1 h) := by
  unfold V hostOps0
  after_reads_simp
  pointwise

theorem head6 (c : Dev nD) (t : Fin cfg0.N) (d : Fin 128) :
    headRow (iblk m c 6 t) (grid0.coords t) (ix2 0 d) = arg m c main_arg6 (ix1 (head t)) := by
  refine Eq.trans ?_ (V_v1 m c (head t) d)
  show iblk m c 6 t ((Rect.unit (s := S4x128) (k0_off1 (grid0.coords t)) S1x128.size (k0_off1_inb (grid0.coords t))).emb (ix2 0 d)) = _
  blk_simp [iblk]
  congr 1
  have e0 : k0_off1 (grid0.coords t) 0 = (grid0.coords t 1).val := congrFun (off1_eq t) 0
  have e1 : k0_off1 (grid0.coords t) 1 = 0 := congrFun (off1_eq t) 1
  blk_ext [index6, e0, e1]

/-- Row `h` of a decay table is the head's parameter. -/
theorem V_v3 (c : Dev nD) (h : Fin 4) (d : Fin 128) : V m c main_v3 (ix2 h d) = arg m c main_arg7 (ix1 h) := by
  unfold V hostOps0
  after_reads_simp
  pointwise

theorem head7 (c : Dev nD) (t : Fin cfg0.N) (d : Fin 128) :
    headRow (iblk m c 7 t) (grid0.coords t) (ix2 0 d) = arg m c main_arg7 (ix1 (head t)) := by
  refine Eq.trans ?_ (V_v3 m c (head t) d)
  show iblk m c 7 t ((Rect.unit (s := S4x128) (k0_off1 (grid0.coords t)) S1x128.size (k0_off1_inb (grid0.coords t))).emb (ix2 0 d)) = _
  blk_simp [iblk]
  congr 1
  have e0 : k0_off1 (grid0.coords t) 0 = (grid0.coords t 1).val := congrFun (off1_eq t) 0
  have e1 : k0_off1 (grid0.coords t) 1 = 0 := congrFun (off1_eq t) 1
  blk_ext [index7, e0, e1]

/-- The result array at the run's end. -/
theorem final_v4 (c : Dev nD) (hq : IsReal (arg m c main_arg0)) (hk : IsReal (arg m c main_arg1)) (hv : IsReal (arg m c main_arg2))
    (b : Fin 16) (h : Fin 4) (s : Fin 4096) (e : Fin 128) :
    (dats m 0 c).arrAt 8 cfg0.N (ix4 b h s e)
      = result (arg m c main_arg0) (arg m c main_arg1) (arg m c main_arg2) (arg m c main_arg3) (arg m c main_arg4) (arg m c main_arg5)
          (arg m c main_arg6) (arg m c main_arg7) b h s e := by
  have key : (dats m 0 c).arrAt 8 cfg0.N = fun j : TOK.Idx =>
      result (arg m c main_arg0) (arg m c main_arg1) (arg m c main_arg2) (arg m c main_arg3) (arg m c main_arg4) (arg m c main_arg5)
          (arg m c main_arg6) (arg m c main_arg7) (j 0) (j 1) (j 2) (j 3) := by
    refine (dats m 0 c).arrAt_eq_of_covers 8 _ (by decide +kernel) fun t hf y => ?_
    blk_simp
    rw [after_8]
    change S1x1x4096x128.Idx at y
    obtain ⟨s, e, rfl⟩ : ∃ (s : Fin 4096) (e : Fin 128), y = ix4 0 0 s e := by
      idx_vars y
      exact ⟨_, _, by congr 1 <;> exact Subsingleton.elim _ _⟩
    unfold outAt
    refine (blockOut_at _ _ _ _ _ _ _ _ _ _ _ (head6 m c t) (head7 m c t) (seq (arg m c main_arg0) (bat t) (head t))
      (seq (arg m c main_arg1) (bat t) (head t)) (seq (arg m c main_arg2) (bat t) (head t))
      (fun s d => (blk0 m c t s d).trans (seq_coe hq _ _ s d)) (fun s d => (blk1 m c t s d).trans (seq_coe hk _ _ s d))
      (fun s d => (blk2 m c t s d).trans (seq_coe hv _ _ s d)) s e).trans ?_
    simp only [blk3, blk4, blk5]
    have e0 : (win0_8.blk t).view.emb (ix4 0 0 s e) = (ix4 (bat t) (head t) s e : TOK.Idx) := by blk_ext [index8]
    rw [e0]
    rfl
  rw [key]
  rfl

/-- The retention layer's result of the arguments, as an array. -/
def resultArr (c : Dev nD) : TOK.Idx → EReal := fun j =>
  result (arg m c main_arg0) (arg m c main_arg1) (arg m c main_arg2) (arg m c main_arg3) (arg m c main_arg4) (arg m c main_arg5)
    (arg m c main_arg6) (arg m c main_arg7) (j 0) (j 1) (j 2) (j 3)

/-- The kernel's run ends with the layer's result in its result array and the arguments as they were. -/
theorem run_value (hq : ∀ c, IsReal (arg m c main_arg0)) (hk : ∀ c, IsReal (arg m c main_arg1)) (hv : ∀ c, IsReal (arg m c main_arg2)) :
    θ_run defs (onTc (τ := τ) (main (F := Ideal))) ⟨m, fun _ => 0, ρ⟩ (fun r => ∀ c : Dev nD,
      r.2.mem ((c.tc : Thread nD τ).loc main_v4) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1.1 c).1 8).trans (funext fun j => by
      rw [eq_ix4 j]
      exact final_v4 m c (hq c) (hk c) (hv c) _ _ _ _), h.2.1 c⟩)
    (θ_run_and (run_main_quiescent m ρ) (frame m ρ))

end Cert.KernelIdeal.Ret

end
-- ==== Proof.RefFrame.lean ====
module

public import proofs.«01_k».proof.Proof.Gen.ReferenceIdeal.Run
public import Idealize.ShloMosaic.Lib.Quiescent

/-! What the reference's run leaves alone: a buffer that no operation of the loop writes is at the loop's end what it was
    at its entry, and the arguments are at the program's end what they were at its start. -/

@[expose] public section

set_option maxRecDepth 16384

noncomputable section

namespace Cert.ReferenceIdeal.Ret

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]

/-- Every buffer the loop writes. -/
abbrev loopW : List (Ref sig .tc) :=
  condOps_W ++ (while0Ops0_W ++ (while0Ops0_1_W ++ (while0Ops0_2_W ++ (while0Ops0_3_W ++ (while0Ops0_4_W ++ while0Ops0_5_W)))))

/-- One round of the loop leaves what it does not write. -/
theorem trip_keeps (r : Ref sig .tc) (hr : r ∉ loopW) (V : Valuation τ sig (Elt F)) :
    afterL bodyI (after condOps V) (Proc.devRef .tc r) = V (Proc.devRef .tc r) := by
  simp only [loopW, List.mem_append, not_or] at hr
  obtain ⟨h0, h1, h2, h3, h4, h5, h6⟩ := hr
  simp only [afterL_cons, afterL_nil]
  rw [after_of_writes_sub while0Ops0_5 _ while0Ops0_5_writes h6, after_of_writes_sub while0Ops0_4 _ while0Ops0_4_writes h5,
    after_of_writes_sub while0Ops0_3 _ while0Ops0_3_writes h4, after_of_writes_sub while0Ops0_2 _ while0Ops0_2_writes h3,
    after_of_writes_sub while0Ops0_1 _ while0Ops0_1_writes h2, after_of_writes_sub while0Ops0 _ while0Ops0_writes h1,
    after_of_writes_sub condOps _ condOps_writes h0]

variable (m : (ℓ : Loc nD τ sig) → Buf (Elt F) ℓ)

/-- So do `k` rounds. -/
theorem loop_keeps (r : Ref sig .tc) (hr : r ∉ loopW) (c : Dev nD) :
    ∀ k, atK m k c (Proc.devRef .tc r) = entryContents preI m c (Proc.devRef .tc r)
  | 0 => rfl
  | k + 1 => (trip_keeps r hr (atK m k c)).trans (loop_keeps r hr c k)

/-- The program's arguments. -/
abbrev args : List (Ref sig .tc) := [main_arg0, main_arg1, main_arg2, main_arg3, main_arg4, main_arg5, main_arg6, main_arg7]

theorem pre_keeps_0 : ∀ r ∈ args, r ∉ hostOps0_W := by decide +kernel
theorem pre_keeps_1 : ∀ r ∈ args, r ∉ hostOps0_1_W := by decide +kernel
theorem pre_keeps_2 : ∀ r ∈ args, r ∉ hostOps0_2_W := by decide +kernel
theorem pre_keeps_3 : ∀ r ∈ args, r ∉ hostOps0_3_W := by decide +kernel
theorem pre_keeps_4 : ∀ r ∈ args, r ∉ hostOps0_4_W := by decide +kernel
theorem pre_keeps_5 : ∀ r ∈ args, r ∉ hostOps0_5_W := by decide +kernel
theorem pre_keeps_6 : ∀ r ∈ args, r ∉ hostOps0_6_W := by decide +kernel
theorem pre_keeps_7 : ∀ r ∈ args, r ∉ hostOps0_7_W := by decide +kernel
theorem pre_keeps_8 : ∀ r ∈ args, r ∉ hostOps0_8_W := by decide +kernel
theorem pre_keeps_9 : ∀ r ∈ args, r ∉ hostOps0_9_W := by decide +kernel
theorem pre_keeps_10 : ∀ r ∈ args, r ∉ hostOps0_10_W := by decide +kernel
theorem pre_keeps_11 : ∀ r ∈ args, r ∉ hostOps0_11_W := by decide +kernel
theorem pre_keeps_12 : ∀ r ∈ args, r ∉ hostOps0_12_W := by decide +kernel
theorem pre_keeps_13 : ∀ r ∈ args, r ∉ hostOps0_13_W := by decide +kernel
theorem pre_keeps_14 : ∀ r ∈ args, r ∉ hostOps0_14_W := by decide +kernel
theorem pre_keeps_15 : ∀ r ∈ args, r ∉ hostOps0_15_W := by decide +kernel
theorem loop_keeps_args : ∀ r ∈ args, r ∉ loopW := by decide +kernel

/-- The stretches before the loop leave the arguments. -/
theorem entry_args (r : Ref sig .tc) (hr : r ∈ args) (c : Dev nD) :
    entryContents preI m c (Proc.devRef .tc r) = m ((c.tc : Thread nD τ).loc r) := by
  simp only [entryContents, afterL_cons, afterL_nil]
  rw [after_of_writes_sub hostOps0_15 _ hostOps0_15_writes (pre_keeps_15 r hr),
    after_of_writes_sub hostOps0_14 _ hostOps0_14_writes (pre_keeps_14 r hr),
    after_of_writes_sub hostOps0_13 _ hostOps0_13_writes (pre_keeps_13 r hr),
    after_of_writes_sub hostOps0_12 _ hostOps0_12_writes (pre_keeps_12 r hr),
    after_of_writes_sub hostOps0_11 _ hostOps0_11_writes (pre_keeps_11 r hr),
    after_of_writes_sub hostOps0_10 _ hostOps0_10_writes (pre_keeps_10 r hr),
    after_of_writes_sub hostOps0_9 _ hostOps0_9_writes (pre_keeps_9 r hr),
    after_of_writes_sub hostOps0_8 _ hostOps0_8_writes (pre_keeps_8 r hr),
    after_of_writes_sub hostOps0_7 _ hostOps0_7_writes (pre_keeps_7 r hr),
    after_of_writes_sub hostOps0_6 _ hostOps0_6_writes (pre_keeps_6 r hr),
    after_of_writes_sub hostOps0_5 _ hostOps0_5_writes (pre_keeps_5 r hr),
    after_of_writes_sub hostOps0_4 _ hostOps0_4_writes (pre_keeps_4 r hr),
    after_of_writes_sub hostOps0_3 _ hostOps0_3_writes (pre_keeps_3 r hr),
    after_of_writes_sub hostOps0_2 _ hostOps0_2_writes (pre_keeps_2 r hr),
    after_of_writes_sub hostOps0_1 _ hostOps0_1_writes (pre_keeps_1 r hr),
    after_of_writes_sub hostOps0 _ hostOps0_writes (pre_keeps_0 r hr)]

/-- What `hostOps0_16` writes, in order. -/
abbrev post16_W : List (Ref sig .tc) := [main_v120, main_v121, main_v122, main_v123, main_v124, main_v125]
theorem post16_writes : (hostOps0_16 : List (HloOp τ sig (Elt F))).Forall fun op => op.writes ⊆ (post16_W.map (Proc.devRef (τ := τ) .tc)).toFinset :=
  StableHlo.forall_writes_sub_of_map rfl
theorem post16_keeps : ∀ r ∈ args, r ∉ post16_W := by decide +kernel
/-- What `hostOps0_17` writes, in order. -/
abbrev post17_W : List (Ref sig .tc) := [main_v126]
theorem post17_writes : (hostOps0_17 : List (HloOp τ sig (Elt F))).Forall fun op => op.writes ⊆ (post17_W.map (Proc.devRef (τ := τ) .tc)).toFinset :=
  StableHlo.forall_writes_sub_of_map rfl
theorem post17_keeps : ∀ r ∈ args, r ∉ post17_W := by decide +kernel
/-- What `hostOps0_18` writes, in order. -/
abbrev post18_W : List (Ref sig .tc) := [main_v127, main_v128, main_cst_13, main_v129, main_v130, main_cst_14, main_v131, main_v132, main_cst_15, main_v133, main_v134, main_v135, main_v136, main_v137]
theorem post18_writes : (hostOps0_18 : List (HloOp τ sig (Elt F))).Forall fun op => op.writes ⊆ (post18_W.map (Proc.devRef (τ := τ) .tc)).toFinset :=
  StableHlo.forall_writes_sub_of_map rfl
theorem post18_keeps : ∀ r ∈ args, r ∉ post18_W := by decide +kernel
/-- What `hostOps0_19` writes, in order. -/
abbrev post19_W : List (Ref sig .tc) := [main_call14_v0, main_call14_v1, main_call14_cst, main_call14_v2, main_call14_v3, main_call14_cst_0, main_call14_v4, main_call14_v5, main_v138]
theorem post19_writes : (hostOps0_19 : List (HloOp τ sig (Elt F))).Forall fun op => op.writes ⊆ (post19_W.map (Proc.devRef (τ := τ) .tc)).toFinset :=
  StableHlo.forall_writes_sub_of_map rfl
theorem post19_keeps : ∀ r ∈ args, r ∉ post19_W := by decide +kernel
/-- What `hostOps0_20` writes, in order. -/
abbrev post20_W : List (Ref sig .tc) := [main_v139, main_v140]
theorem post20_writes : (hostOps0_20 : List (HloOp τ sig (Elt F))).Forall fun op => op.writes ⊆ (post20_W.map (Proc.devRef (τ := τ) .tc)).toFinset :=
  StableHlo.forall_writes_sub_of_map rfl
theorem post20_keeps : ∀ r ∈ args, r ∉ post20_W := by decide +kernel

/-- The whole program leaves the arguments. -/
theorem final_args (r : Ref sig .tc) (hr : r ∈ args) (c : Dev nD) :
    finalContents condOps preI bodyI postI 32 m c (Proc.devRef .tc r) = m ((c.tc : Thread nD τ).loc r) := by
  have hl := loop_keeps_args r hr
  have hc : r ∉ condOps_W := fun h => hl (List.mem_append_left _ h)
  simp only [finalContents, afterL_cons, afterL_nil]
  rw [after_of_writes_sub hostOps0_20 _ post20_writes (post20_keeps r hr),
    after_of_writes_sub hostOps0_19 _ post19_writes (post19_keeps r hr),
    after_of_writes_sub hostOps0_18 _ post18_writes (post18_keeps r hr),
    after_of_writes_sub hostOps0_17 _ post17_writes (post17_keeps r hr),
    after_of_writes_sub hostOps0_16 _ post16_writes (post16_keeps r hr),
    after_of_writes_sub condOps _ condOps_writes hc]
  exact (loop_keeps m r hl c 32).trans (entry_args m r hr c)

/-- The reference runs, leaves its arguments, and ends with every semaphore at zero. -/
theorem frame (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h c main_arg0 rfl).trans (final_args m main_arg0 (by decide) c), (h c main_arg1 rfl).trans (final_args m main_arg1 (by decide) c), (h c main_arg2 rfl).trans (final_args m main_arg2 (by decide) c), (h c main_arg3 rfl).trans (final_args m main_arg3 (by decide) c), (h c main_arg4 rfl).trans (final_args m main_arg4 (by decide) c), (h c main_arg5 rfl).trans (final_args m main_arg5 (by decide) c), (h c main_arg6 rfl).trans (final_args m main_arg6 (by decide) c), (h c main_arg7 rfl).trans (final_args m main_arg7 (by decide) c)⟩,
    sem_eq_zero_of_no_sems rfl r.2⟩) (run_fold m ρ)

end Cert.ReferenceIdeal.Ret

end
-- ==== Proof.RefLoop.lean ====
module

public import proofs.«01_k».proof.Proof.RefFrame
public import proofs.«01_k».proof.Proof.Decay
public import Idealize.ShloMosaic.Lib.StableHlo.RunRead
public import Idealize.ShloMosaic.Lib.Pointwise
public import Idealize.ShloMosaic.Lib.WordCmp

/-! The reference's loop over the chunks at the ideal values: what one round does to the two states and to the two stacks
    of states, and what the stacks hold after the 32 rounds. -/

@[expose] public section

set_option maxRecDepth 16384

noncomputable section

namespace Cert.ReferenceIdeal.Ret

open Idealize.ShloMosaic Idealize.ShloMosaic.TcCoe Idealize.ShloMosaic.StableHlo Idealize.SL.Sem Idealize.ShloMosaic.Tactic
open Cert.ReferenceIdeal Cert.ReferenceIdeal.Gen Cert.ReferenceIdeal.Value Cert.Retention
open Finset (range)
open Idealize.ShloMosaic.WordCmp

variable (V : Valuation τ sig (Elt Ideal))

/-! ## The carried buffers, as arrays of extended reals -/

abbrev kvF : S32x16x4x128x128.Idx → EReal := V (Proc.devRef .tc main_v119_0)
abbrev kvB : S32x16x4x128x128.Idx → EReal := V (Proc.devRef .tc main_v119_1)
abbrev cdF : S1x4x1x1.Idx → EReal := V (Proc.devRef .tc main_v119_2)
abbrev cdB : S1x4x1x1.Idx → EReal := V (Proc.devRef .tc main_v119_3)
abbrev count : S_.Idx → BitVec 32 := V (Proc.devRef .tc main_v119_4)
abbrev stF : S16x4x128x128.Idx → EReal := V (Proc.devRef .tc main_v119_5)
abbrev stB : S16x4x128x128.Idx → EReal := V (Proc.devRef .tc main_v119_6)
abbrev stackF : S32x16x4x128x128.Idx → EReal := V (Proc.devRef .tc main_v119_7)
abbrev stackB : S32x16x4x128x128.Idx → EReal := V (Proc.devRef .tc main_v119_8)

/-! ## One round -/

theorem slice_fits : ∀ n : Fin 32, S32x16x4x128x128.Slices ![n.val, 0, 0, 0, 0] S1x16x4x128x128 := by decide +kernel

/-- The starts that a slice of round `n` prints are `n` and four zeros. -/
theorem starts (x : (⟨S_, .i32⟩ : BufTy).Contents (Elt Ideal)) (n : Fin 32) (hx : x = fun _ => BitVec.ofNat 32 n.val) (a : Fin 5) :
    ((![x, constantI S_ 32 0#32, constantI S_ 32 0#32, constantI S_ 32 0#32, constantI S_ 32 0#32] : Fin 5 → (⟨S_, .i32⟩ : BufTy).Contents (Elt Ideal)) a (Shape.Idx.first h_S_)).toInt
      = (((![n.val, 0, 0, 0, 0] : Fin 5 → ℕ) a : ℕ) : ℤ) := by
  subst hx
  match a with
  | 0 => exact toInt_ofNat _ (by omega)
  | 1 => rfl
  | 2 => rfl
  | 3 => rfl
  | 4 => rfl

variable {V} in
/-- A round's forward state: the state before it, decayed, and the chunk's products. -/
theorem step5_at (n : Fin 32) (hc : count V = fun _ => BitVec.ofNat 32 n.val) (b : Fin 16) (h : Fin 4) (d e : Fin 128) :
    step_main_v119_5 V (ix4 b h d e) = stF V (ix4 b h d e) * cdF V (ix4 0 h 0 0) + kvF V (ix5 n b h d e) := by
  unfold step_main_v119_5
  rw [id_eq, dynamicSlice_eq_extract _ _ _ _ ![n.val, 0, 0, 0, 0] (slice_fits n) (starts _ n hc)]
  pointwise

variable {V} in
/-- A round's backward state. -/
theorem step6_at (n : Fin 32) (hc : count V = fun _ => BitVec.ofNat 32 n.val) (b : Fin 16) (h : Fin 4) (d e : Fin 128) :
    step_main_v119_6 V (ix4 b h d e) = stB V (ix4 b h d e) * cdB V (ix4 0 h 0 0) + kvB V (ix5 n b h d e) := by
  unfold step_main_v119_6
  rw [id_eq, dynamicSlice_eq_extract _ _ _ _ ![n.val, 0, 0, 0, 0] (slice_fits n) (starts _ n hc)]
  pointwise

/-- An array written into place `n` of a stack. -/
theorem put_at (x : S32x16x4x128x128.Idx → EReal) (u : S16x4x128x128.Idx → EReal) (n i : Fin 32) (b : Fin 16) (h : Fin 4) (d e : Fin 128) :
    updateSlice x (broadcastInDim S1x16x4x128x128 ![1, 2, 3, 4] bcast_S16x4x128x128_S1x16x4x128x128_1_2_3_4 u) ![n.val, 0, 0, 0, 0] (slice_fits n)
      (ix5 i b h d e) = if i.val = n.val then u (ix4 b h d e) else x (ix5 i b h d e) := by
  pointwise
  by_cases hi : i.val = n.val
  · rw [if_pos hi, dif_pos (by omega)]
  · rw [if_neg hi, dif_neg (by omega)]

variable {V} in
theorem step7_at (n : Fin 32) (hc : count V = fun _ => BitVec.ofNat 32 n.val) (i : Fin 32) (b : Fin 16) (h : Fin 4) (d e : Fin 128) :
    step_main_v119_7 V (ix5 i b h d e) = if i.val = n.val then stF V (ix4 b h d e) else stackF V (ix5 i b h d e) := by
  unfold step_main_v119_7
  rw [id_eq, dynamicUpdateSlice_eq_update _ _ _ _ ![n.val, 0, 0, 0, 0] (slice_fits n) (starts _ n hc)]
  exact put_at _ _ n i b h d e

variable {V} in
theorem step8_at (n : Fin 32) (hc : count V = fun _ => BitVec.ofNat 32 n.val) (i : Fin 32) (b : Fin 16) (h : Fin 4) (d e : Fin 128) :
    step_main_v119_8 V (ix5 i b h d e) = if i.val = n.val then stB V (ix4 b h d e) else stackB V (ix5 i b h d e) := by
  unfold step_main_v119_8
  rw [id_eq, dynamicUpdateSlice_eq_update _ _ _ _ ![n.val, 0, 0, 0, 0] (slice_fits n) (starts _ n hc)]
  exact put_at _ _ n i b h d e

/-! ## The rounds -/

/-- Rounds that put the state of their number into its place of a stack leave each place below their number filled. -/
theorem stacked {X : Type} (st : ℕ → X → EReal) (stk : ℕ → Fin 32 → X → EReal)
    (hs : ∀ n : Fin 32, ∀ i x, stk (n.val + 1) i x = if i.val = n.val then st n.val x else stk n.val i x) :
    ∀ k ≤ 32, ∀ i : Fin 32, i.val < k → ∀ x, stk k i x = st i.val x
  | 0, _, i, hi, _ => absurd hi (Nat.not_lt_zero _)
  | k + 1, hk, i, hi, x => by
    rw [hs ⟨k, hk⟩ i x]
    split
    · next h => rw [h]
    · next h => exact stacked st stk hs k (by omega) i (by simp only at h; omega) x

/-- The contents after `k` rounds. -/
abbrev rounds (k : ℕ) : Valuation τ sig (Elt Ideal) := STEP^[k] V

theorem rounds_succ (k : ℕ) : rounds V (k + 1) = STEP (rounds V k) := Function.iterate_succ_apply' ..

theorem rounds_kvF : ∀ k, kvF (rounds V k) = kvF V
  | 0 => rfl
  | k + 1 => by rw [rounds_succ]; exact (STEP_main_v119_0 _).trans (rounds_kvF k)
theorem rounds_kvB : ∀ k, kvB (rounds V k) = kvB V
  | 0 => rfl
  | k + 1 => by rw [rounds_succ]; exact (STEP_main_v119_1 _).trans (rounds_kvB k)
theorem rounds_cdF : ∀ k, cdF (rounds V k) = cdF V
  | 0 => rfl
  | k + 1 => by rw [rounds_succ]; exact (STEP_main_v119_2 _).trans (rounds_cdF k)
theorem rounds_cdB : ∀ k, cdB (rounds V k) = cdB V
  | 0 => rfl
  | k + 1 => by rw [rounds_succ]; exact (STEP_main_v119_3 _).trans (rounds_cdB k)

/-- The counter counts the rounds. -/
theorem rounds_count (h0 : count V = fun _ => 0#32) : ∀ k, count (rounds V k) = fun _ => BitVec.ofNat 32 k
  | 0 => h0
  | k + 1 => by
    rw [rounds_succ]
    refine (STEP_main_v119_4 _).trans ?_
    unfold step_main_v119_4
    rw [id_eq, show (rounds V k) (Proc.devRef .tc main_v119_4) = fun _ => BitVec.ofNat 32 k from rounds_count h0 k]
    funext j
    show BitVec.ofNat 32 k + 1#32 = _
    rw [BitVec.ofNat_add]

/-- The forward stack after the rounds: at each place the closed form of the states. -/
theorem stackF_at (h0 : count V = fun _ => 0#32) (b : Fin 16) (h : Fin 4) (d e : Fin 128) (γ : ℝ) (y : ℕ → ℝ)
    (hcd : cdF V (ix4 0 h 0 0) = ((γ ^ 128 : ℝ) : EReal))
    (hkv : ∀ n : Fin 32, kvF V (ix5 n b h d e) = ((∑ j ∈ range 128, γ ^ (128 - 1 - j) * y (128 * n.val + j) : ℝ) : EReal)) (n : Fin 32) :
    stackF (rounds V 32) (ix5 n b h d e) = closed γ (stF V (ix4 b h d e)) y (128 * n.val) := by
  refine (stacked (X := Unit) (fun k _ => stF (rounds V k) (ix4 b h d e)) (fun k i _ => stackF (rounds V k) (ix5 i b h d e)) ?_ 32 le_rfl n n.isLt ()).trans ?_
  · intro n i _
    simp only [rounds_succ]
    exact (congrFun (STEP_main_v119_7 _) _).trans (step7_at n (rounds_count V h0 _) i b h d e)
  · refine closed_iterate γ _ y 128 32 (fun k => stF (rounds V k) (ix4 b h d e)) rfl ?_ n.val n.isLt.le
    intro k hk
    simp only [rounds_succ]
    refine (congrFun (STEP_main_v119_5 _) _).trans ((step5_at ⟨k, hk⟩ (rounds_count V h0 _) b h d e).trans ?_)
    rw [rounds_cdF, rounds_kvF, hcd, hkv]

/-- The backward stack after the rounds. -/
theorem stackB_at (h0 : count V = fun _ => 0#32) (b : Fin 16) (h : Fin 4) (d e : Fin 128) (γ : ℝ) (y : ℕ → ℝ)
    (hcd : cdB V (ix4 0 h 0 0) = ((γ ^ 128 : ℝ) : EReal))
    (hkv : ∀ n : Fin 32, kvB V (ix5 n b h d e) = ((∑ j ∈ range 128, γ ^ (128 - 1 - j) * y (128 * n.val + j) : ℝ) : EReal)) (n : Fin 32) :
    stackB (rounds V 32) (ix5 n b h d e) = closed γ (stB V (ix4 b h d e)) y (128 * n.val) := by
  refine (stacked (X := Unit) (fun k _ => stB (rounds V k) (ix4 b h d e)) (fun k i _ => stackB (rounds V k) (ix5 i b h d e)) ?_ 32 le_rfl n n.isLt ()).trans ?_
  · intro n i _
    simp only [rounds_succ]
    exact (congrFun (STEP_main_v119_8 _) _).trans (step8_at n (rounds_count V h0 _) i b h d e)
  · refine closed_iterate γ _ y 128 32 (fun k => stB (rounds V k) (ix4 b h d e)) rfl ?_ n.val n.isLt.le
    intro k hk
    simp only [rounds_succ]
    refine (congrFun (STEP_main_v119_6 _) _).trans ((step6_at ⟨k, hk⟩ (rounds_count V h0 _) b h d e).trans ?_)
    rw [rounds_cdB, rounds_kvB, hcd, hkv]

end Cert.ReferenceIdeal.Ret

end
-- ==== Proof.RefValue.lean ====
module

public import proofs.«01_k».proof.Proof.RefLoop

/-! The reference's value: what it computes before its loop, from the arguments, and what it makes of the stacks of states
    after it. Together they give the retention's closed form at every position. -/

@[expose] public section

set_option maxRecDepth 16384

noncomputable section

namespace Cert.ReferenceIdeal.Ret

open Idealize.ShloMosaic Idealize.ShloMosaic.TcCoe Idealize.ShloMosaic.StableHlo Idealize.SL.Sem Idealize.ShloMosaic.Tactic
open Cert.ReferenceIdeal Cert.ReferenceIdeal.Gen Cert.ReferenceIdeal.Value Cert.Retention
open Finset (range)

/-! ## The printed forms of the decay -/

/-- The reference's log of the sigmoid. -/
theorem lsig_printed (x : EReal) [Decidable (-x ≠ -x)] :
    (-if -x ≠ -x then -x else max (-x) 0 + Ideal.log1p (Ideal.exp (-FloatOps.absf (F := Ideal) (φ := .f32) (-x)))) = lsig x := by
  rw [if_neg (not_not.mpr rfl), ← neg_softplus x, sub_zero]
  rfl

theorem zero_printed : (id (constant (F := Ideal) S_ .f32 0#32) ix0 : EReal) = 0 := Ideal.ofBits_zero_f32

/-- The decay from a chunk's row `s` to its row `t`, nothing for the rows after `t`. -/
theorem weight_printed (γx : EReal) (t s : Fin 128) (z z' : EReal) (hz : z' = 0) :
    (if 0 ≤ FloatOps.sitofp (F := Ideal) .f32 (BitVec.ofNat 32 t.val) - FloatOps.sitofp (F := Ideal) .f32 (BitVec.ofNat 32 s.val) then
      Ideal.exp ((if 0 ≤ FloatOps.sitofp (F := Ideal) .f32 (BitVec.ofNat 32 t.val) - FloatOps.sitofp (F := Ideal) .f32 (BitVec.ofNat 32 s.val) then
        FloatOps.sitofp (F := Ideal) .f32 (BitVec.ofNat 32 t.val) - FloatOps.sitofp (F := Ideal) .f32 (BitVec.ofNat 32 s.val) else z) * lsig γx)
      else z') = ((if s.val < t.val + 1 then gam γx ^ (t.val - s.val) else 0 : ℝ) : EReal) := by
  rw [hz, sitofp_ofNat _ (by omega), sitofp_ofNat _ (by omega), ← EReal.coe_sub]
  by_cases h : s.val < t.val + 1
  · have e : ((t.val : ℝ) - (s.val : ℝ)) = ((t.val - s.val : ℕ) : ℝ) := by rw [Nat.cast_sub (by omega)]
    rw [if_pos h, e, if_pos (by exact_mod_cast Nat.zero_le _), if_pos (by exact_mod_cast Nat.zero_le _), exp_mul_lsig]
  · rw [if_neg h, if_neg, EReal.coe_zero]
    rw [not_le]
    have : (t.val : ℝ) < (s.val : ℝ) := by exact_mod_cast (by omega : t.val < s.val)
    exact_mod_cast sub_neg.mpr this

/-- The same with the row itself left out. -/
theorem weight_strict_printed (γx : EReal) (t s : Fin 128) (z z' : EReal) (hz : z' = 0) :
    (if 0 < FloatOps.sitofp (F := Ideal) .f32 (BitVec.ofNat 32 t.val) - FloatOps.sitofp (F := Ideal) .f32 (BitVec.ofNat 32 s.val) then
      Ideal.exp ((if 0 < FloatOps.sitofp (F := Ideal) .f32 (BitVec.ofNat 32 t.val) - FloatOps.sitofp (F := Ideal) .f32 (BitVec.ofNat 32 s.val) then
        FloatOps.sitofp (F := Ideal) .f32 (BitVec.ofNat 32 t.val) - FloatOps.sitofp (F := Ideal) .f32 (BitVec.ofNat 32 s.val) else z) * lsig γx)
      else z') = ((if s.val < t.val then gam γx ^ (t.val - s.val) else 0 : ℝ) : EReal) := by
  rw [hz, sitofp_ofNat _ (by omega), sitofp_ofNat _ (by omega), ← EReal.coe_sub]
  by_cases h : s.val < t.val
  · have e : ((t.val : ℝ) - (s.val : ℝ)) = ((t.val - s.val : ℕ) : ℝ) := by rw [Nat.cast_sub (by omega)]
    have hp : (0 : EReal) < (((t.val - s.val : ℕ) : ℝ) : EReal) := by exact_mod_cast (by omega : 0 < t.val - s.val)
    rw [if_pos h, e, if_pos hp, if_pos hp, exp_mul_lsig]
  · rw [if_neg h, if_neg, EReal.coe_zero]
    rw [not_lt]
    have : (t.val : ℝ) ≤ (s.val : ℝ) := by exact_mod_cast (by omega : t.val ≤ s.val)
    exact_mod_cast sub_nonpos.mpr this

/-- A key's decay to the end of its chunk. -/
theorem zeta_printed (γx : EReal) (s : Fin 128) :
    Ideal.exp ((Ideal.ofBits .f32 1123942400#32 - FloatOps.sitofp (F := Ideal) .f32 (BitVec.ofNat 32 s.val)) * lsig γx)
      = ((gam γx ^ (128 - 1 - s.val) : ℝ) : EReal) := by
  rw [sitofp_ofNat _ (by omega), ofBits_127, ← EReal.coe_sub, ← exp_mul_lsig]
  congr 3
  rw [Nat.cast_sub (by omega)]
  norm_num

/-- A query's decay from the state before its chunk. -/
theorem xi_printed (γx : EReal) (t : Fin 128) :
    Ideal.exp ((FloatOps.sitofp (F := Ideal) .f32 (BitVec.ofNat 32 t.val) + 1) * lsig γx) = ((gam γx ^ (t.val + 1) : ℝ) : EReal) := by
  rw [sitofp_ofNat _ (by omega), ← EReal.coe_one, ← EReal.coe_add, ← exp_mul_lsig]
  congr 3
  norm_num

/-- A chunk's decay. -/
theorem cd_printed (γx : EReal) : Ideal.exp (Ideal.ofBits .f32 1124073472#32 * lsig γx) = ((gam γx ^ 128 : ℝ) : EReal) := by
  rw [ofBits_128, ← exp_mul_lsig]
  norm_num

/-! ## Sums of real entries -/

/-- A chunk's products of keys and values. -/
theorem kv_coe (k v w : Fin 128 → EReal) (k' v' w' : ℕ → ℝ) (hk : ∀ s, k s = (k' s.val : EReal)) (hv : ∀ s, v s = (v' s.val : EReal))
    (hw : ∀ s, w s = (w' s.val : EReal)) :
    ∑ s, k s * w s * v s = ((∑ s ∈ range 128, w' s * (k' s * v' s) : ℝ) : EReal) := by
  refine sum_fin_coe _ _ fun s => ?_
  rw [hv, hw, hk, ← EReal.coe_mul, ← EReal.coe_mul]
  congr 1
  ring

/-- Row `t` of chunk `n`. -/
theorem row_coe {x : TOK.Idx → EReal} (hx : IsReal x) (b : Fin 16) (h : Fin 4) (n : Fin 32) (t d : Fin 128) (hlt : n.val * 128 + t.val < 4096) :
    x (ix4 b h ⟨n.val * 128 + t.val, hlt⟩ d) = (seq x b h (128 * n.val + t.val) d : EReal) := by
  rw [seq_coe hx, Nat.mul_comm 128]

/-- Row `t` of chunk `n`, counted from the sequence's end. -/
theorem row_rev_coe {x : TOK.Idx → EReal} (hx : IsReal x) (b : Fin 16) (h : Fin 4) (n : Fin 32) (t d : Fin 128) (hlt : n.val * 128 + t.val < 4096) :
    x (ix4 b h (Fin.rev ⟨n.val * 128 + t.val, hlt⟩) d) = (seq x b h (4096 - 1 - (128 * n.val + t.val)) d : EReal) := by
  rw [seq_coe hx, Fin.val_rev]
  congr 2
  simp only
  omega

/-! ## Before the loop -/

variable (V : Valuation τ sig (Elt Ideal))

abbrev aq : TOK.Idx → EReal := V (Proc.devRef .tc main_arg0)
abbrev ak : TOK.Idx → EReal := V (Proc.devRef .tc main_arg1)
abbrev av : TOK.Idx → EReal := V (Proc.devRef .tc main_arg2)
abbrev ag : TOK.Idx → EReal := V (Proc.devRef .tc main_arg3)
abbrev asf : STA.Idx → EReal := V (Proc.devRef .tc main_arg4)
abbrev asb : STA.Idx → EReal := V (Proc.devRef .tc main_arg5)
abbrev adf : DEC.Idx → EReal := V (Proc.devRef .tc main_arg6)
abbrev adb : DEC.Idx → EReal := V (Proc.devRef .tc main_arg7)

/-- The contents at the loop's entry. -/
abbrev entered : Valuation τ sig (Elt Ideal) := afterL preI V

abbrev intraF : S16x4x32x128x128.Idx → EReal := V (Proc.devRef .tc main_v31)
abbrev intraB : S16x4x32x128x128.Idx → EReal := V (Proc.devRef .tc main_v89)
abbrev qF : S16x4x32x128x128.Idx → EReal := V (Proc.devRef .tc main_v58)
abbrev qB : S16x4x32x128x128.Idx → EReal := V (Proc.devRef .tc main_v116)
abbrev gateA : S16x4x4096x128.Idx → EReal := V (Proc.devRef .tc main_v3)
abbrev outA : S16x4x4096x128.Idx → EReal := V (Proc.devRef .tc main_v140)

variable {V}

section
variable (hq : IsReal (aq V)) (hk : IsReal (ak V)) (hv : IsReal (av V))
include hq hk hv

theorem intraF_at (b : Fin 16) (h : Fin 4) (n : Fin 32) (t e : Fin 128) :
    intraF (entered V) (ix5 b h n t e) = ((∑ s ∈ range 128, (∑ d, seq (aq V) b h (128 * n.val + t.val) d * seq (ak V) b h (128 * n.val + s) d)
      * (if s < t.val + 1 then gam (adf V (ix1 h)) ^ (t.val - s) else 0) * seq (av V) b h (128 * n.val + s) e : ℝ) : EReal) := by
  unfold intraF entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  simp only [TRef.ofBuf, TRef.toBuf, cast_eq]
  pointwise
  simp only [lsig_printed]
  refine sum_fin_coe _ _ fun s => ?_
  rw [EReal.coe_mul, EReal.coe_mul, coe_sum]
  refine congrArg₂ HMul.hMul (congrArg₂ HMul.hMul (Finset.sum_congr rfl fun d _ => ?_) ?_) (row_coe hv b h n s e _)
  · exact (congrArg₂ HMul.hMul (row_coe hq b h n t d _) (row_coe hk b h n s d _)).trans (EReal.coe_mul _ _).symm
  · exact weight_printed (adf V (ix1 h)) t s _ _ zero_printed

theorem intraB_at (b : Fin 16) (h : Fin 4) (n : Fin 32) (t e : Fin 128) :
    intraB (entered V) (ix5 b h n t e) = ((∑ s ∈ range 128, (∑ d, seq (aq V) b h (4096 - 1 - (128 * n.val + t.val)) d * seq (ak V) b h (4096 - 1 - (128 * n.val + s)) d)
      * (if s < t.val then gam (adb V (ix1 h)) ^ (t.val - s) else 0) * seq (av V) b h (4096 - 1 - (128 * n.val + s)) e : ℝ) : EReal) := by
  unfold intraB entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  simp only [TRef.ofBuf, TRef.toBuf, cast_eq]
  pointwise
  simp only [lsig_printed]
  refine sum_fin_coe _ _ fun s => ?_
  rw [EReal.coe_mul, EReal.coe_mul, coe_sum]
  refine congrArg₂ HMul.hMul (congrArg₂ HMul.hMul (Finset.sum_congr rfl fun d _ => ?_) ?_) (row_rev_coe hv b h n s e _)
  · exact (congrArg₂ HMul.hMul (row_rev_coe hq b h n t d _) (row_rev_coe hk b h n s d _)).trans (EReal.coe_mul _ _).symm
  · exact weight_strict_printed (adb V (ix1 h)) t s _ _ zero_printed

omit hk hv in
theorem qF_at (b : Fin 16) (h : Fin 4) (n : Fin 32) (t d : Fin 128) :
    qF (entered V) (ix5 b h n t d) = (seq (aq V) b h (128 * n.val + t.val) d : EReal) * ((gam (adf V (ix1 h)) ^ (t.val + 1) : ℝ) : EReal) := by
  rw [← row_coe hq b h n t d (by omega), ← xi_printed]
  unfold qF entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  simp only [TRef.ofBuf, TRef.toBuf, cast_eq]
  pointwise
  simp only [lsig_printed]

omit hk hv in
theorem qB_at (b : Fin 16) (h : Fin 4) (n : Fin 32) (t d : Fin 128) :
    qB (entered V) (ix5 b h n t d) = (seq (aq V) b h (4096 - 1 - (128 * n.val + t.val)) d : EReal) * ((gam (adb V (ix1 h)) ^ (t.val + 1) : ℝ) : EReal) := by
  rw [← row_rev_coe hq b h n t d (by omega), ← xi_printed]
  unfold qB entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  simp only [TRef.ofBuf, TRef.toBuf, cast_eq]
  pointwise
  simp only [lsig_printed]
  rfl

omit hq in
theorem kvF_at (b : Fin 16) (h : Fin 4) (n : Fin 32) (d e : Fin 128) :
    kvF (entered V) (ix5 n b h d e) = ((∑ s ∈ range 128, gam (adf V (ix1 h)) ^ (128 - 1 - s)
      * (seq (ak V) b h (128 * n.val + s) d * seq (av V) b h (128 * n.val + s) e) : ℝ) : EReal) := by
  unfold kvF entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  simp only [TRef.ofBuf, TRef.toBuf, cast_eq, id_eq]
  pointwise
  simp only [lsig_printed]
  exact kv_coe _ _ _ (fun s => seq (ak V) b h (128 * n.val + s) d) (fun s => seq (av V) b h (128 * n.val + s) e) (fun s => gam (adf V (ix1 h)) ^ (128 - 1 - s))
    (fun s => row_coe hk b h n s d _) (fun s => row_coe hv b h n s e _) (fun s => zeta_printed _ s)

omit hq in
theorem kvB_at (b : Fin 16) (h : Fin 4) (n : Fin 32) (d e : Fin 128) :
    kvB (entered V) (ix5 n b h d e) = ((∑ s ∈ range 128, gam (adb V (ix1 h)) ^ (128 - 1 - s)
      * (seq (ak V) b h (4096 - 1 - (128 * n.val + s)) d * seq (av V) b h (4096 - 1 - (128 * n.val + s)) e) : ℝ) : EReal) := by
  unfold kvB entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  simp only [TRef.ofBuf, TRef.toBuf, cast_eq, id_eq]
  pointwise
  simp only [lsig_printed]
  exact kv_coe _ _ _ (fun s => seq (ak V) b h (4096 - 1 - (128 * n.val + s)) d) (fun s => seq (av V) b h (4096 - 1 - (128 * n.val + s)) e)
    (fun s => gam (adb V (ix1 h)) ^ (128 - 1 - s)) (fun s => row_rev_coe hk b h n s d _) (fun s => row_rev_coe hv b h n s e _) (fun s => zeta_printed _ s)

end

variable (V)

theorem cdF_entered (h : Fin 4) : cdF (entered V) (ix4 0 h 0 0) = ((gam (adf V (ix1 h)) ^ 128 : ℝ) : EReal) := by
  rw [← cd_printed]
  unfold cdF entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  simp only [TRef.ofBuf, TRef.toBuf, cast_eq, id_eq]
  pointwise
  simp only [lsig_printed]

theorem cdB_entered (h : Fin 4) : cdB (entered V) (ix4 0 h 0 0) = ((gam (adb V (ix1 h)) ^ 128 : ℝ) : EReal) := by
  rw [← cd_printed]
  unfold cdB entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  simp only [TRef.ofBuf, TRef.toBuf, cast_eq, id_eq]
  pointwise
  simp only [lsig_printed]

theorem stF_entered : stF (entered V) = asf V := by
  unfold stF entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  rfl

theorem stB_entered : stB (entered V) = asb V := by
  unfold stB entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  rfl

theorem count_entered : count (entered V) = fun _ => 0#32 := by
  unfold count entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  rfl

theorem gate_entered : gateA (entered V) = ag V := by
  unfold gateA entered preI hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15
  simp only [afterL_cons, afterL_nil]
  after_reads_simp
  rfl

/-! ## After the loop -/

/-- The chunk and the row of a position. -/
abbrev chunkOf (s : Fin 4096) : Fin 32 := ⟨s.val / 128, by omega⟩
abbrev rowOf (s : Fin 4096) : Fin 128 := ⟨s.val % 128, by omega⟩

/-- Both directions at one position, before the norm. -/
def both (b : Fin 16) (h : Fin 4) (s : Fin 4096) (e : Fin 128) : EReal :=
  (intraF V (ix5 b h (chunkOf s) (rowOf s) e) + ∑ d, qF V (ix5 b h (chunkOf s) (rowOf s) d) * stackF V (ix5 (chunkOf s) b h d e))
  + (intraB V (ix5 b h (chunkOf s.rev) (rowOf s.rev) e) + ∑ d, qB V (ix5 b h (chunkOf s.rev) (rowOf s.rev) d) * stackB V (ix5 (chunkOf s.rev) b h d e))

theorem one_add_exp_ne (x : EReal) : 1 + Ideal.exp x ≠ 0 := by
  induction x with
  | bot => rw [exp_bot, add_zero]; exact one_ne_zero
  | coe a =>
    rw [exp_coe, ← EReal.coe_one, ← EReal.coe_add]
    exact_mod_cast (add_pos one_pos (Real.exp_pos a)).ne'
  | top => exact fun h => EReal.top_ne_zero ((EReal.coe_add_top 1).symm.trans h)

/-- The gate, as a quotient or as a product with one. -/
theorem gate_printed (x : EReal) : x * Ideal.div 1 (1 + Ideal.exp (-x)) = Ideal.div x (1 + Ideal.exp (0 - x)) := by
  rw [zero_sub]
  exact Ideal.mul_one_div (one_add_exp_ne _)

/-- The result from what stands after the loop. -/
theorem out_at (b : Fin 16) (h : Fin 4) (s : Fin 4096) (e : Fin 128) :
    outA (afterL postI V) (ix4 b h s e) = tail (both V b h s) (gateA V (ix4 b h s e)) e := by
  unfold outA postI hostOps0_16 hostOps0_17 hostOps0_18 hostOps0_19 hostOps0_20
  simp only [afterL_cons, afterL_nil]
  after_reads_simp
  simp only [TRef.ofBuf, TRef.toBuf, cast_eq]
  pointwise
  rw [gate_printed]
  rfl

end Cert.ReferenceIdeal.Ret

end
-- ==== Proof.RefResult.lean ====
module

public import proofs.«01_k».proof.Proof.RefValue

/-! The reference's run at the ideal values: its result is the retention's closed form. -/

@[expose] public section

set_option maxRecDepth 16384

noncomputable section

namespace Cert.ReferenceIdeal.Ret

open Idealize.ShloMosaic Idealize.ShloMosaic.TcCoe Idealize.ShloMosaic.StableHlo Idealize.SL.Sem Idealize.ShloMosaic.Tactic
open Cert.ReferenceIdeal Cert.ReferenceIdeal.Gen Cert.ReferenceIdeal.Value Cert.Retention
open Finset (range)

variable (m : (ℓ : Loc nD τ sig) → Buf (Elt Ideal) ℓ) (c : Dev nD)

/-- The contents at the start, and what stands after the loop. -/
abbrev start : Valuation τ sig (Elt Ideal) := launchContents m c
abbrev looped : Valuation τ sig (Elt Ideal) := after condOps (atK m 32 c)

/-- What the loop does not write is as it was at its entry. -/
theorem looped_keeps (r : Ref sig .tc) (hl : r ∉ loopW) : looped m c (Proc.devRef .tc r) = entered (start m c) (Proc.devRef .tc r) := by
  rw [looped, after_of_writes_sub condOps _ condOps_writes (fun h => hl (List.mem_append_left _ h))]
  exact loop_keeps m r hl c 32

/-- The stacks are the rounds'. -/
theorem looped_stackF : stackF (looped m c) = stackF (rounds (entered (start m c)) 32) :=
  (cond_keeps _ main_v119_7 (by decide)).trans (atK_agree m c 32 main_v119_7 (by decide))
theorem looped_stackB : stackB (looped m c) = stackB (rounds (entered (start m c)) 32) :=
  (cond_keeps _ main_v119_8 (by decide)).trans (atK_agree m c 32 main_v119_8 (by decide))

variable {m c}

section
variable (hq : IsReal (aq (start m c))) (hk : IsReal (ak (start m c))) (hv : IsReal (av (start m c)))
include hq hk hv

/-- The forward direction at one position. -/
theorem forward_at (b : Fin 16) (h : Fin 4) (s : Fin 4096) (e : Fin 128) :
    intraF (looped m c) (ix5 b h (chunkOf s) (rowOf s) e) + ∑ d, qF (looped m c) (ix5 b h (chunkOf s) (rowOf s) d) * stackF (looped m c) (ix5 (chunkOf s) b h d e)
      = ∑ d, asf (start m c) (ix4 b h d e) * ((seq (aq (start m c)) b h s.val d * gam (adf (start m c) (ix1 h)) ^ (s.val + 1) : ℝ) : EReal)
        + ((∑ j ∈ range (s.val + 1), gam (adf (start m c) (ix1 h)) ^ (s.val - j)
            * ((∑ d, seq (aq (start m c)) b h s.val d * seq (ak (start m c)) b h j d) * seq (av (start m c)) b h j e) : ℝ) : EReal) := by
  have hs : 128 * (s.val / 128) + s.val % 128 = s.val := Nat.div_add_mod _ _
  have key := dir_of_chunk 128 (gam (adf (start m c) (ix1 h))) (fun d => asf (start m c) (ix4 b h d e)) (seq (aq (start m c)) b h s.val)
    (seq (ak (start m c)) b h) (fun j => seq (av (start m c)) b h j e) (s.val / 128) (s.val % 128) (s.val % 128 + 1) (by omega)
  rw [← Nat.add_assoc, hs] at key
  rw [← key]
  refine congrArg₂ HAdd.hAdd ?_ (Finset.sum_congr rfl fun d _ => congrArg₂ HMul.hMul ?_ ?_)
  · rw [show intraF (looped m c) = intraF (entered (start m c)) from looped_keeps m c main_v31 (by decide +kernel), intraF_at hq hk hv]
    simp only [hs]
  · rw [show qF (looped m c) = qF (entered (start m c)) from looped_keeps m c main_v58 (by decide +kernel), qF_at hq]
    simp only [hs]
  · rw [looped_stackF, stackF_at _ (count_entered _) b h d e _ (fun j => seq (ak (start m c)) b h j d * seq (av (start m c)) b h j e) (cdF_entered _ h) (fun n => kvF_at hk hv b h n d e), stF_entered]

/-- The backward direction at one position. -/
theorem backward_at (b : Fin 16) (h : Fin 4) (s : Fin 4096) (e : Fin 128) :
    intraB (looped m c) (ix5 b h (chunkOf s.rev) (rowOf s.rev) e)
        + ∑ d, qB (looped m c) (ix5 b h (chunkOf s.rev) (rowOf s.rev) d) * stackB (looped m c) (ix5 (chunkOf s.rev) b h d e)
      = ∑ d, asb (start m c) (ix4 b h d e) * ((seq (aq (start m c)) b h s.val d * gam (adb (start m c) (ix1 h)) ^ (4096 - s.val) : ℝ) : EReal)
        + ((∑ j ∈ range (4096 - 1 - s.val), gam (adb (start m c) (ix1 h)) ^ (4096 - 1 - s.val - j)
            * ((∑ d, seq (aq (start m c)) b h s.val d * seq (ak (start m c)) b h (4096 - 1 - j) d) * seq (av (start m c)) b h (4096 - 1 - j) e) : ℝ) : EReal) := by
  have hr : s.rev.val = 4096 - 1 - s.val := by rw [Fin.val_rev]; omega
  have hs : 128 * (s.rev.val / 128) + s.rev.val % 128 = s.rev.val := Nat.div_add_mod _ _
  have hb : 4096 - 1 - s.rev.val = s.val := by omega
  have key := dir_of_chunk 128 (gam (adb (start m c) (ix1 h))) (fun d => asb (start m c) (ix4 b h d e)) (seq (aq (start m c)) b h s.val)
    (fun j => seq (ak (start m c)) b h (4096 - 1 - j)) (fun j => seq (av (start m c)) b h (4096 - 1 - j) e) (s.rev.val / 128) (s.rev.val % 128) (s.rev.val % 128) (by omega)
  rw [hs] at key
  rw [← hr, show 4096 - s.val = s.rev.val + 1 by omega, ← key]
  refine congrArg₂ HAdd.hAdd ?_ (Finset.sum_congr rfl fun d _ => congrArg₂ HMul.hMul ?_ ?_)
  · rw [show intraB (looped m c) = intraB (entered (start m c)) from looped_keeps m c main_v89 (by decide +kernel), intraB_at hq hk hv]
    simp only [hs, hb]
  · rw [show qB (looped m c) = qB (entered (start m c)) from looped_keeps m c main_v116 (by decide +kernel), qB_at hq]
    simp only [hs, hb]
  · rw [looped_stackB, stackB_at _ (count_entered _) b h d e _ (fun j => seq (ak (start m c)) b h (4096 - 1 - j) d * seq (av (start m c)) b h (4096 - 1 - j) e) (cdB_entered _ h) (fun n => kvB_at hk hv b h n d e), stB_entered]

/-- The result at one position. -/
theorem final_at (b : Fin 16) (h : Fin 4) (s : Fin 4096) (e : Fin 128) :
    outA (finalContents condOps preI bodyI postI 32 m c) (ix4 b h s e)
      = result (aq (start m c)) (ak (start m c)) (av (start m c)) (ag (start m c)) (asf (start m c)) (asb (start m c)) (adf (start m c)) (adb (start m c)) b h s e := by
  refine (out_at (looped m c) b h s e).trans ?_
  unfold result
  rw [show gateA (looped m c) = gateA (entered (start m c)) from looped_keeps m c main_v3 (by decide +kernel), gate_entered]
  congr 1
  funext e
  unfold both mid
  rw [forward_at hq hk hv, backward_at hq hk hv]

end

/-- The reference's result. -/
def refArr (m : (ℓ : Loc nD τ sig) → Buf (Elt Ideal) ℓ) (c : Dev nD) : TOK.Idx → EReal := fun j =>
  result (aq (start m c)) (ak (start m c)) (av (start m c)) (ag (start m c)) (asf (start m c)) (asb (start m c)) (adf (start m c)) (adb (start m c)) (j 0) (j 1) (j 2) (j 3)

/-- The reference runs to its result and leaves its arguments. -/
theorem run_value (m : (ℓ : Loc nD τ sig) → Buf (Elt Ideal) ℓ) (ρ : Dev nD → PrngReg) (hq : ∀ c, IsReal (aq (start m c))) (hk : ∀ c, IsReal (ak (start m c)))
    (hv : ∀ c, IsReal (av (start m c))) : θ_run (defs (F := Ideal)) (onTc (τ := τ) (main (F := Ideal))) ⟨m, fun _ => 0, ρ⟩ (fun r => ∀ c : Dev nD,
      r.2.mem ((c.tc : Thread nD τ).loc main_v140) = refArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, (h c main_arg0 rfl).trans (final_args m main_arg0 (by decide) c), (h c main_arg1 rfl).trans (final_args m main_arg1 (by decide) c), (h c main_arg2 rfl).trans (final_args m main_arg2 (by decide) c), (h c main_arg3 rfl).trans (final_args m main_arg3 (by decide) c), (h c main_arg4 rfl).trans (final_args m main_arg4 (by decide) c), (h c main_arg5 rfl).trans (final_args m main_arg5 (by decide) c), (h c main_arg6 rfl).trans (final_args m main_arg6 (by decide) c), (h c main_arg7 rfl).trans (final_args m main_arg7 (by decide) c)⟩) (run_fold m ρ)
  refine (h c main_v140 rfl).trans (funext fun j => ?_)
  obtain ⟨b, hh, s, e, rfl⟩ : ∃ b h s e, j = ix4 b h s e := ⟨j 0, j 1, j 2, j 3, eq_ix4 j⟩
  exact final_at (hq c) (hk c) (hv c) b hh s e

end Cert.ReferenceIdeal.Ret

end
-- ==== Proof.Finite.lean ====
module

public import proofs.«01_k».proof.Pre_finite
public import proofs.«01_k».proof.Proof.Decay
public import Idealize.ShloMosaic.Lib.ReduceAll
public import Idealize.ShloMosaic.Lib.Affine

/-! What the precondition says: every query, key and value is a real number. -/

@[expose] public section

set_option maxRecDepth 16384

noncomputable section

namespace Cert.Pre_finite

open Idealize.ShloMosaic Cert.Retention

/-- The shapes' side conditions hold. -/
theorem facts : Facts where
  bitsLt_bf16_f32 := by decide
  bcast_S_S16x4x4096x128 := by decide
  reducesTo_S16x4x4096x128_S_d0_1_2_3 := by decide
  h_S_ := by decide

/-- A value whose magnitude is below the infinite one is a real number. -/
theorem real_of_olt (x : EReal) (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hlt : max x (-x) < ⊤ := by
    by_contra hn
    rw [decide_eq_false hn] at h'
    exact absurd h' (by decide)
  refine ⟨fun e => ?_, fun e => ?_⟩ <;> subst e <;> simp at hlt

/-- The printed test of one array. -/
theorem isReal_of_test [Facts] (x : FVec Ideal S16x4x4096x128 .bf16)
    (h : Host.reduce IntOp.andi (cmpf .olt (Host.absf (extf .f32 x Facts.bitsLt_bf16_f32)) (broadcastInDim S16x4x4096x128 ![] Facts.bcast_S_S16x4x4096x128 (constant S_ .f32 0x7F800000#32)))
      (constantI S_ 1 1#1) Facts.reducesTo_S16x4x4096x128_S_d0_1_2_3 Facts.h_S_ (fun a => a.elim0) = 1#1) : IsReal x :=
  fun j => real_of_olt (x j) (Host.reduce_andi_all _ _ _ _ _ h j)

/-- The precondition makes the three arrays real. -/
theorem reals [Facts] (q k v g : FVec Ideal S16x4x4096x128 .bf16) (sf sb : FVec Ideal S16x4x128x128 .f32) (df db : FVec Ideal S4 .f32)
    (h : fn q k v g sf sb df db = fun _ => 1#1) : IsReal q ∧ IsReal k ∧ IsReal v := by
  have h1 := congrFun h (fun a => a.elim0)
  obtain ⟨h2, hv⟩ := IntOp.andi_eq_one.mp h1
  obtain ⟨hq, hk⟩ := IntOp.andi_eq_one.mp h2
  exact ⟨isReal_of_test q hq, isReal_of_test k hk, isReal_of_test v hv⟩

end Cert.Pre_finite

end
-- ==== Proof.FfnSpec.lean ====
module

public import Idealize.ShloMosaic.PureOps.Ideal
public import Idealize.ShloMosaic.Lib.ValueIdx
public import Idealize.ShloMosaic.Lib.Pointwise

/-! The layer's second half at one position: the output projection, the two sandwich norms and the gated convolutional
    feed-forward part, in closed form over the extended reals. -/

@[expose] public section

noncomputable section

namespace Cert.Ffn

open Idealize.ShloMosaic Idealize.ShloMosaic.Tactic

abbrev TOKS : Shape := ⟨3, ![16, 4096, 1024]⟩
abbrev HEADS : Shape := ⟨4, ![16, 4, 4096, 128]⟩
abbrev MODS : Shape := ⟨2, ![16, 6144]⟩
abbrev VEC : Shape := ⟨1, ![1024]⟩
abbrev SQ : Shape := ⟨2, ![1024, 1024]⟩
abbrev UPW : Shape := ⟨2, ![1024, 5632]⟩
abbrev TAPS : Shape := ⟨2, ![3, 5632]⟩
abbrev BIAS : Shape := ⟨1, ![5632]⟩
abbrev DOWN : Shape := ⟨2, ![2816, 1024]⟩

/-- The arguments. -/
structure Args where
  x : TOKS.Idx → EReal
  ret : HEADS.Idx → EReal
  four : HEADS.Idx → EReal
  md : MODS.Idx → EReal
  gpost : VEC.Idx → EReal
  gpre : VEC.Idx → EReal
  gout : VEC.Idx → EReal
  wo : SQ.Idx → EReal
  wu : UPW.Idx → EReal
  cw : TAPS.Idx → EReal
  cb : BIAS.Idx → EReal
  wd : DOWN.Idx → EReal

/-- Equal argument by argument. -/
theorem args_ext {A B : Args} (hx : A.x = B.x) (hret : A.ret = B.ret) (hfour : A.four = B.four) (hmd : A.md = B.md) (hgpost : A.gpost = B.gpost) (hgpre : A.gpre = B.gpre)
    (hgout : A.gout = B.gout) (hwo : A.wo = B.wo) (hwu : A.wu = B.wu) (hcw : A.cw = B.cw) (hcb : A.cb = B.cb) (hwd : A.wd = B.wd) : A = B := by
  obtain ⟨⟩ := A
  obtain ⟨⟩ := B
  cases hx; cases hret; cases hfour; cases hmd; cases hgpost; cases hgpre; cases hgout; cases hwo; cases hwu; cases hcw; cases hcb; cases hwd
  rfl

/-- The inverse root mean square of a row. -/
def rs (x : Fin 1024 → EReal) : EReal :=
  Ideal.rsqrt (Ideal.div (∑ e, x e * x e) (Ideal.ofBits .f32 0x44800000#32) + Ideal.ofBits .f32 0x358637BD#32)

/-- The gated linear unit's first factor. -/
def silu (a : EReal) : EReal := Ideal.div a (1 + Ideal.exp (-a))

variable (A : Args)

/-- Part `k` of the modulation. -/
def md (k : Fin 6) (b : Fin 16) (e : Fin 1024) : EReal := A.md (ix2 b ⟨k.val * 1024 + e.val, by omega⟩)

/-- The mixers' outputs of a position beside one another: four retention heads, then four Fourier groups. -/
def cat (b : Fin 16) (t : Fin 4096) (c : Fin 1024) : EReal :=
  if h : c.val < 512 then A.ret (ix4 b ⟨c.val / 128, by omega⟩ t ⟨c.val % 128, by omega⟩)
  else A.four (ix4 b ⟨(c.val - 512) / 128, by omega⟩ t ⟨(c.val - 512) % 128, by omega⟩)

/-- The output projection. -/
def mix (b : Fin 16) (t : Fin 4096) (e : Fin 1024) : EReal := ∑ c, cat A b t c * A.wo (ix2 c e)

/-- The stream after the mixing part. -/
def mid (b : Fin 16) (t : Fin 4096) (e : Fin 1024) : EReal :=
  A.x (ix3 b t e) + mix A b t e * rs (mix A b t) * (A.gpost (ix1 e) * md A 2 b e)

/-- The feed-forward part's input. -/
def hid (b : Fin 16) (t : Fin 4096) (e : Fin 1024) : EReal :=
  mid A b t e * rs (mid A b t) * (A.gpre (ix1 e) * (1 + md A 4 b e)) + md A 3 b e

/-- The up projection. -/
def up (b : Fin 16) (t : Fin 4096) (n : Fin 5632) : EReal := ∑ e, hid A b t e * A.wu (ix2 e n)

/-- The convolution of width three along a grid row of 64 positions, nothing beyond its ends. -/
def conv (b : Fin 16) (t : Fin 4096) (n : Fin 5632) : EReal :=
  (if h : t.val % 64 = 0 then 0 else up A b ⟨t.val - 1, by omega⟩ n) * A.cw (ix2 0 n)
    + up A b t n * A.cw (ix2 1 n)
    + (if h : t.val % 64 = 63 then 0 else up A b ⟨t.val + 1, by omega⟩ n) * A.cw (ix2 2 n)
    + A.cb (ix1 n)

/-- The gated activation. -/
def act (b : Fin 16) (t : Fin 4096) (f : Fin 2816) : EReal :=
  silu (conv A b t ⟨f.val, by omega⟩) * conv A b t ⟨2816 + f.val, by omega⟩

/-- The down projection. -/
def ffn (b : Fin 16) (t : Fin 4096) (e : Fin 1024) : EReal := ∑ f, act A b t f * A.wd (ix2 f e)

/-- The layer's result. -/
def out (b : Fin 16) (t : Fin 4096) (e : Fin 1024) : EReal :=
  mid A b t e + ffn A b t e * rs (ffn A b t) * (A.gout (ix1 e) * md A 5 b e)

end Cert.Ffn

end
-- ==== Proof.FfnTile.lean ====
module

public import proofs.«01_k».proof.Proof.Gen.Kernel2Ideal.Skeleton
public import proofs.«01_k».proof.Proof.FfnSpec
public import Idealize.ShloMosaic.Lib.Pipeline.ValueKit
public import Idealize.ShloMosaic.Lib.WholeRead

/-! The values that a grid point of the feed-forward kernel computes, as functions of what it loads, and each of them at
    an index. -/

@[expose] public section

set_option maxRecDepth 16384

noncomputable section

namespace Cert.Kernel2Ideal.Ffn

open Idealize.ShloMosaic Idealize.ShloMosaic.TcCoe Idealize.ShloMosaic.Tactic Finset Cert.Ffn
open Cert.Kernel2Ideal Cert.Kernel2Ideal.Gen

/-! ## What the body computes -/

/-- One grid row of the convolution: the loads one position back, one ahead and in place; the three taps and the bias. -/
def convRow (p n c : Vec Ideal S1x1x64x128 .f32) (tp tc tn tb : Vec Ideal S1x128 .f32) : FVec Ideal S64x128 .f32 :=
  k0_pay41 k0_pay22 k0_pay23 (k0_pay31 tp) (k0_pay32 tc) (k0_pay33 tn) (k0_pay34 tb) p n c

/-- The gated activation of two tiles. -/
def gated (a b : FVec Ideal S512x128 .f32) : FVec Ideal S512x128 .bf16 :=
  truncf .bf16 (mulf (divf a (addf (broadcast S512x128 (Scalar.ofBits (F := Ideal) .f32 0x3F800000#32)) (exp (subf (broadcast S512x128 (Scalar.ofBits (F := Ideal) .f32 0x00000000#32)) a)))) b) bitsLt_bf16_f32

/-- The rows of the output: the stream's rows and the feed-forward part's, normed. -/
def outRows (g : FVec Ideal S1x1024 .f32) (a : Vec Ideal S256x2816 .bf16) (w : Vec Ideal S2816x1024 .bf16) (x : Vec Ideal S1x256x1024 .f32) : FVec Ideal S1x256x1024 .f32 :=
  k0_pay1085 g a w x

/-- The rows of the stream after the mixing part. -/
def midRows (g : FVec Ideal S1x1024 .f32) (a0 a1 a2 a3 b0 b1 b2 b3 : Vec Ideal S1x1x256x128 .bf16) (w : Vec Ideal S1024x1024 .bf16)
    (x : Vec Ideal S1x256x1024 .f32) : FVec Ideal S256x1024 .f32 :=
  k0_pay8 g (k0_pay5 a0) (k0_pay6 a1) (k0_pay7 a2) a3 b0 b1 b2 b3 w x

/-! ## Each of them at an index -/

/-- A mask's word, converted. -/
theorem word_mask (P : Prop) [Decidable P] :
    FloatOps.sitofp (F := Ideal) .f32 (if P then 0#32 else 1#32) = if P then (0 : EReal) else 1 := by
  split_ifs
  · show (((0#32 : BitVec 32).toInt : ℝ) : EReal) = 0
    norm_num
  · show (((1#32 : BitVec 32).toInt : ℝ) : EReal) = 1
    norm_num

theorem k0_pay22_at (r : Fin 8) (l : Fin 128) : k0_pay22 (F := Ideal) (ix2 r l) = if r.val = 0 then 0 else 1 := by
  unfold k0_pay22; pointwise
  exact (by decide +kernel : ∀ r : Fin 8, BitVec.setWidth 32 (IntOp.cmpi CmpIPredicate.ne (BitVec.ofNat 32 r.val) 0#32) = if r.val = 0 then 0#32 else 1#32) r ▸ word_mask _

theorem k0_pay23_at (r : Fin 8) (l : Fin 128) : k0_pay23 (F := Ideal) (ix2 r l) = if r.val = 7 then 0 else 1 := by
  unfold k0_pay23; pointwise
  exact (by decide +kernel : ∀ r : Fin 8, BitVec.setWidth 32 (IntOp.cmpi CmpIPredicate.ne (BitVec.ofNat 32 r.val) 7#32) = if r.val = 7 then 0#32 else 1#32) r ▸ word_mask _

theorem convRow_at (p n c : Vec Ideal S1x1x64x128 .f32) (tp tc tn tb : Vec Ideal S1x128 .f32) (r : Fin 64) (l : Fin 128) :
    convRow p n c tp tc tn tb (ix2 r l)
      = (if r.val = 0 then 0 else p (ix4 0 0 r l)) * tp (ix2 0 l) + c (ix4 0 0 r l) * tc (ix2 0 l)
        + (if r.val = 63 then 0 else n (ix4 0 0 r l)) * tn (ix2 0 l) + tb (ix2 0 l) := by
  unfold convRow k0_pay41 k0_pay31 k0_pay32 k0_pay33 k0_pay34; pointwise
  have e1 : (if h : r.val < 8 then p (ix4 0 0 r l) * k0_pay22 (F := Ideal) (ix2 ⟨r.val, h⟩ l) else p (ix4 0 0 ⟨8 + (r.val - 8), by omega⟩ l))
      = if r.val = 0 then 0 else p (ix4 0 0 r l) := by
    by_cases h : r.val < 8
    · rw [dif_pos h, k0_pay22_at]
      by_cases h0 : r.val = 0
      · rw [if_pos h0, if_pos h0, mul_zero]
      · rw [if_neg h0, if_neg h0, mul_one]
    · rw [dif_neg h, if_neg (by omega)]
      exact congrArg (fun r => p (ix4 0 0 r l)) (Fin.ext (show 8 + (r.val - 8) = r.val by omega))
  have e2 : (if h : r.val < 56 then n (ix4 0 0 r l) else n (ix4 0 0 ⟨56 + (r.val - 56), by omega⟩ l) * k0_pay23 (F := Ideal) (ix2 ⟨r.val - 56, by omega⟩ l))
      = if r.val = 63 then 0 else n (ix4 0 0 r l) := by
    by_cases h : r.val < 56
    · rw [dif_pos h, if_neg (by omega)]
    · have hr : (⟨56 + (r.val - 56), by omega⟩ : Fin 64) = r := Fin.ext (show 56 + (r.val - 56) = r.val by omega)
      rw [dif_neg h, k0_pay23_at, hr]
      by_cases h7 : r.val = 63
      · rw [if_pos h7, if_pos (show r.val - 56 = 7 by omega), mul_zero]
      · rw [if_neg h7, if_neg (show r.val - 56 ≠ 7 by omega), mul_one]
  rw [e1, e2]
  exact congrArg (· + tb (ix2 0 l)) (add_right_comm _ _ _)

theorem gated_at (a b : FVec Ideal S512x128 .f32) (r : Fin 512) (l : Fin 128) :
    gated a b (ix2 r l) = silu (a (ix2 r l)) * b (ix2 r l) := by
  unfold gated silu; pointwise
  rw [zero_sub]

/-- Eight tiles beside one another are the mixers' outputs of a position. -/
theorem cat_of_tiles (A : Args) (b : Fin 16) (t : Fin 4096) (x : Fin 1024) :
    (if h : x.val < 128 then A.ret (ix4 b 0 t ⟨x.val, h⟩)
      else if h : x.val - 128 < 128 then A.ret (ix4 b 1 t ⟨x.val - 128, h⟩)
      else if h : x.val - 128 - 128 < 128 then A.ret (ix4 b 2 t ⟨x.val - 128 - 128, h⟩)
      else if h : x.val - 128 - 128 - 128 < 128 then A.ret (ix4 b 3 t ⟨x.val - 128 - 128 - 128, h⟩)
      else if h : x.val - 128 - 128 - 128 - 128 < 128 then A.four (ix4 b 0 t ⟨x.val - 128 - 128 - 128 - 128, h⟩)
      else if h : x.val - 128 - 128 - 128 - 128 - 128 < 128 then A.four (ix4 b 1 t ⟨x.val - 128 - 128 - 128 - 128 - 128, h⟩)
      else if h : x.val - 128 - 128 - 128 - 128 - 128 - 128 < 128 then A.four (ix4 b 2 t ⟨x.val - 128 - 128 - 128 - 128 - 128 - 128, h⟩)
      else A.four (ix4 b 3 t ⟨x.val - 128 - 128 - 128 - 128 - 128 - 128 - 128, by omega⟩)) = cat A b t x := by
  have R : ∀ (k : Fin 4) (d : Fin 128) (h : x.val = 128 * k.val + d.val), A.ret (ix4 b k t d) = cat A b t x := by
    intro k d h
    unfold cat
    rw [dif_pos (by omega)]
    congr 2 <;> exact Fin.ext (by simp only []; omega)
  have Q : ∀ (k : Fin 4) (d : Fin 128) (h : x.val = 512 + 128 * k.val + d.val), A.four (ix4 b k t d) = cat A b t x := by
    intro k d h
    unfold cat
    rw [dif_neg (by omega)]
    congr 2 <;> exact Fin.ext (by simp only []; omega)
  split_ifs
  · exact R 0 _ (by simp)
  · exact R 1 _ (by simp; omega)
  · exact R 2 _ (by simp; omega)
  · exact R 3 _ (by simp; omega)
  · exact Q 0 _ (by simp; omega)
  · exact Q 1 _ (by simp; omega)
  · exact Q 2 _ (by simp; omega)
  · exact Q 3 _ (by simp; omega)

theorem midRows_at (g : FVec Ideal S1x1024 .f32) (a0 a1 a2 a3 b0 b1 b2 b3 : Vec Ideal S1x1x256x128 .bf16) (w : Vec Ideal S1024x1024 .bf16)
    (x : Vec Ideal S1x256x1024 .f32) (A : Args) (b : Fin 16) (t : Fin 256 → Fin 4096)
    (hg : ∀ e : Fin 1024, g (ix2 0 e) = A.gpost (ix1 e) * md A 2 b e)
    (ha0 : ∀ (r : Fin 256) (d : Fin 128), a0 (ix4 0 0 r d) = A.ret (ix4 b 0 (t r) d))
    (ha1 : ∀ (r : Fin 256) (d : Fin 128), a1 (ix4 0 0 r d) = A.ret (ix4 b 1 (t r) d))
    (ha2 : ∀ (r : Fin 256) (d : Fin 128), a2 (ix4 0 0 r d) = A.ret (ix4 b 2 (t r) d))
    (ha3 : ∀ (r : Fin 256) (d : Fin 128), a3 (ix4 0 0 r d) = A.ret (ix4 b 3 (t r) d))
    (hb0 : ∀ (r : Fin 256) (d : Fin 128), b0 (ix4 0 0 r d) = A.four (ix4 b 0 (t r) d))
    (hb1 : ∀ (r : Fin 256) (d : Fin 128), b1 (ix4 0 0 r d) = A.four (ix4 b 1 (t r) d))
    (hb2 : ∀ (r : Fin 256) (d : Fin 128), b2 (ix4 0 0 r d) = A.four (ix4 b 2 (t r) d))
    (hb3 : ∀ (r : Fin 256) (d : Fin 128), b3 (ix4 0 0 r d) = A.four (ix4 b 3 (t r) d))
    (hw : ∀ c e : Fin 1024, w (ix2 c e) = A.wo (ix2 c e))
    (hx : ∀ (r : Fin 256) (e : Fin 1024), x (ix3 0 r e) = A.x (ix3 b (t r) e)) (r : Fin 256) (e : Fin 1024) :
    midRows g a0 a1 a2 a3 b0 b1 b2 b3 w x (ix2 r e) = mid A b (t r) e := by
  unfold midRows k0_pay8 k0_pay5 k0_pay6 k0_pay7; pointwise
  simp only [ha0, ha1, ha2, ha3, hb0, hb1, hb2, hb3, hw, hx, hg, cat_of_tiles]
  rfl

theorem hidRows_at (v3 v15 : FVec Ideal S1x1024 .f32) (x : FVec Ideal S256x1024 .f32) (A : Args) (b : Fin 16) (t : Fin 256 → Fin 4096)
    (h3 : ∀ e : Fin 1024, v3 (ix2 0 e) = md A 3 b e) (h15 : ∀ e : Fin 1024, v15 (ix2 0 e) = A.gpre (ix1 e) * (1 + md A 4 b e))
    (hx : ∀ (r : Fin 256) (e : Fin 1024), x (ix2 r e) = mid A b (t r) e) (r : Fin 256) (e : Fin 1024) :
    k0_pay10 v3 v15 x (ix2 r e) = hid A b (t r) e := by
  unfold k0_pay10 hid rs; pointwise
  simp only [hx, h3, h15]

theorem tile_at (h : Vec Ideal S512x1024 .bf16) (w : Vec Ideal S1024x256 .bf16) (r : Fin 512) (l : Fin 128) :
    k0_pay29 h w (ix4 0 0 r l) = ∑ e : Fin 1024, h (ix2 r e) * w (ix2 e ⟨l.val, by omega⟩) := by
  unfold k0_pay29 k0_pay28; pointwise

theorem tile_at' (h : Vec Ideal S512x1024 .bf16) (w : Vec Ideal S1024x256 .bf16) (r : Fin 512) (l : Fin 128) :
    k0_pay30 h w (ix4 0 0 r l) = ∑ e : Fin 1024, h (ix2 r e) * w (ix2 e ⟨128 + l.val, by omega⟩) := by
  unfold k0_pay30 k0_pay28; pointwise

theorem outRows_at (g : FVec Ideal S1x1024 .f32) (a : Vec Ideal S256x2816 .bf16) (w : Vec Ideal S2816x1024 .bf16)
    (x : Vec Ideal S1x256x1024 .f32) (A : Args) (b : Fin 16) (t : Fin 256 → Fin 4096)
    (hg : ∀ e : Fin 1024, g (ix2 0 e) = A.gout (ix1 e) * md A 5 b e)
    (ha : ∀ (r : Fin 256) (f : Fin 2816), a (ix2 r f) = act A b (t r) f)
    (hw : ∀ (f : Fin 2816) (e : Fin 1024), w (ix2 f e) = A.wd (ix2 f e))
    (hx : ∀ (r : Fin 256) (e : Fin 1024), x (ix3 0 r e) = mid A b (t r) e) (r : Fin 256) (e : Fin 1024) :
    outRows g a w x (ix3 0 r e) = out A b (t r) e := by
  unfold outRows k0_pay1085 out rs ffn; pointwise
  simp only [ha, hw, hx, hg]

/-! ## Eight grid rows -/

/-- The load of 64 rows of a tile of the up projection. -/
abbrev rows64 (sa lt o : ℕ) (h : sa < 22 ∧ lt < 2 ∧ o ≤ 464) : Rect S22x2x528x128 :=
  Rect.unit ![sa, lt, o, 0] S1x1x64x128.size (fun a => by
    obtain ⟨h0, h1, h2⟩ := h
    fin_cases a
    · show sa + 1 ≤ 22; omega
    · show lt + 1 ≤ 2; omega
    · show o + 64 ≤ 528; omega
    · show 0 + 128 ≤ 128; omega)

/-- The store of a tile of the up projection. -/
abbrev tileR (sa lt : ℕ) (h : sa < 22 ∧ lt < 2) : Rect S22x2x528x128 :=
  Rect.unit ![sa, lt, 8, 0] S1x1x512x128.size (fun a => by
    obtain ⟨h0, h1⟩ := h
    fin_cases a
    · show sa + 1 ≤ 22; omega
    · show lt + 1 ≤ 2; omega
    · show 8 + 512 ≤ 528; omega
    · show 0 + 128 ≤ 128; omega)

variable (v : View sig .tc .vmem S22x2x528x128 .f32) (L : List (View.Piece (Elt Ideal) S22x2x528x128 .f32))

/-- The grid row that begins at row `o` of the block. -/
def convAt (sa lt o : ℕ) (h : sa < 22 ∧ lt < 2) (ho : o ≤ 448) (tp tc tn tb : Vec Ideal S1x128 .f32) : FVec Ideal S64x128 .f32 :=
  convRow (v.readCov L (rows64 sa lt (o + 7) ⟨h.1, h.2, by omega⟩).toLoadRect) (v.readCov L (rows64 sa lt (o + 9) ⟨h.1, h.2, by omega⟩).toLoadRect)
    (v.readCov L (rows64 sa lt (o + 8) ⟨h.1, h.2, by omega⟩).toLoadRect) tp tc tn tb

/-- The convolved tile. -/
def convTile (sa lt : ℕ) (h : sa < 22 ∧ lt < 2) (tp tc tn tb : Vec Ideal S1x128 .f32) : FVec Ideal S512x128 .f32 :=
  concatenate S512x128 0 [⟨S64x128, convAt v L sa lt 0 h (by omega) tp tc tn tb⟩, ⟨S64x128, convAt v L sa lt 64 h (by omega) tp tc tn tb⟩,
    ⟨S64x128, convAt v L sa lt 128 h (by omega) tp tc tn tb⟩, ⟨S64x128, convAt v L sa lt 192 h (by omega) tp tc tn tb⟩,
    ⟨S64x128, convAt v L sa lt 256 h (by omega) tp tc tn tb⟩, ⟨S64x128, convAt v L sa lt 320 h (by omega) tp tc tn tb⟩,
    ⟨S64x128, convAt v L sa lt 384 h (by omega) tp tc tn tb⟩, ⟨S64x128, convAt v L sa lt 448 h (by omega) tp tc tn tb⟩]
    concatenates_S64x128_S64x128_S64x128_S64x128_S64x128_S64x128_S64x128_S64x128_S512x128_d0

variable (A : Args) (b : Fin 16) (i : Fin 8)

/-- The position of row `r` of block `i`. -/
abbrev tok (r : Fin 512) : Fin 4096 := ⟨512 * i.val + r.val, by omega⟩

theorem convAt_at (sa lt o : ℕ) (h : sa < 22 ∧ lt < 2) (ho : o ≤ 448) (tp tc tn tb : Vec Ideal S1x128 .f32) (n0 : ℕ) (hn : n0 + 128 ≤ 5632)
    (hL : ∀ (r : Fin 512) (l : Fin 128), View.canon L (ix4 ⟨sa, h.1⟩ ⟨lt, h.2⟩ ⟨8 + r.val, by omega⟩ l) = up A b (tok i r) ⟨n0 + l.val, by omega⟩)
    (hp : ∀ l : Fin 128, tp (ix2 0 l) = A.cw (ix2 0 ⟨n0 + l.val, by omega⟩)) (hc : ∀ l : Fin 128, tc (ix2 0 l) = A.cw (ix2 1 ⟨n0 + l.val, by omega⟩))
    (ht : ∀ l : Fin 128, tn (ix2 0 l) = A.cw (ix2 2 ⟨n0 + l.val, by omega⟩)) (hb : ∀ l : Fin 128, tb (ix2 0 l) = A.cb (ix1 ⟨n0 + l.val, by omega⟩))
    (hd : o % 64 = 0) (r : Fin 64) (l : Fin 128) :
    convAt v L sa lt o h ho tp tc tn tb (ix2 r l) = conv A b (tok i ⟨o + r.val, by omega⟩) ⟨n0 + l.val, by omega⟩ := by
  have key : ∀ (k : ℕ) (hk : k ≤ 464) (r' : Fin 512), k + r.val = 8 + r'.val →
      v.readCov L (rows64 sa lt k ⟨h.1, h.2, hk⟩).toLoadRect (ix4 0 0 r l) = up A b (tok i r') ⟨n0 + l.val, by omega⟩ := by
    intro k hk r' e
    rw [View.readCov_eq_canon', ← hL]
    refine congrArg (View.canon L) (funext fun a => Fin.ext ?_)
    show ![sa, lt, k, 0] a + 1 * (ix4 (0 : Fin 1) (0 : Fin 1) r l a).val = _
    fin_cases a
    · rfl
    · rfl
    · show k + 1 * r.val = 8 + r'.val
      omega
    · show 0 + 1 * l.val = l.val
      omega
  unfold convAt conv
  rw [convRow_at, hp, hc, ht, hb, key (o + 8) (by omega) ⟨o + r.val, by omega⟩ (by simp only []; omega)]
  congr 3
  · congr 1
    by_cases h0 : r.val = 0
    · rw [if_pos h0, dif_pos (show (512 * i.val + (o + r.val)) % 64 = 0 by omega)]
    · rw [if_neg h0, dif_neg (show (512 * i.val + (o + r.val)) % 64 ≠ 0 by omega), key (o + 7) (by omega) ⟨o + r.val - 1, by omega⟩ (by simp only []; omega)]
      exact congrArg (fun t => up A b t _) (Fin.ext (show 512 * i.val + (o + r.val - 1) = 512 * i.val + (o + r.val) - 1 by omega))
  · by_cases h0 : r.val = 63
    · rw [if_pos h0, dif_pos (show (512 * i.val + (o + r.val)) % 64 = 63 by omega)]
    · rw [if_neg h0, dif_neg (show (512 * i.val + (o + r.val)) % 64 ≠ 63 by omega), key (o + 9) (by omega) ⟨o + r.val + 1, by omega⟩ (by simp only []; omega)]
      exact congrArg (fun t => up A b t _) (Fin.ext (show 512 * i.val + (o + r.val + 1) = 512 * i.val + (o + r.val) + 1 by omega))

theorem convTile_at (sa lt : ℕ) (h : sa < 22 ∧ lt < 2) (tp tc tn tb : Vec Ideal S1x128 .f32) (n0 : ℕ) (hn : n0 + 128 ≤ 5632)
    (hL : ∀ (r : Fin 512) (l : Fin 128), View.canon L (ix4 ⟨sa, h.1⟩ ⟨lt, h.2⟩ ⟨8 + r.val, by omega⟩ l) = up A b (tok i r) ⟨n0 + l.val, by omega⟩)
    (hp : ∀ l : Fin 128, tp (ix2 0 l) = A.cw (ix2 0 ⟨n0 + l.val, by omega⟩)) (hc : ∀ l : Fin 128, tc (ix2 0 l) = A.cw (ix2 1 ⟨n0 + l.val, by omega⟩))
    (ht : ∀ l : Fin 128, tn (ix2 0 l) = A.cw (ix2 2 ⟨n0 + l.val, by omega⟩)) (hb : ∀ l : Fin 128, tb (ix2 0 l) = A.cb (ix1 ⟨n0 + l.val, by omega⟩))
    (r : Fin 512) (l : Fin 128) :
    convTile v L sa lt h tp tc tn tb (ix2 r l) = conv A b (tok i r) ⟨n0 + l.val, by omega⟩ := by
  have C := fun o ho hd => convAt_at v L A b i sa lt o h ho tp tc tn tb n0 hn hL hp hc ht hb hd
  unfold convTile; pointwise
  split_ifs <;> rw [C _ _ (by norm_num)] <;>
    exact congrArg (fun t => conv A b (tok i t) _) (Fin.ext (by simp only []; omega))

end Cert.Kernel2Ideal.Ffn

end
-- ==== Proof.FfnLoad.lean ====
module

public import proofs.«01_k».proof.Proof.FfnTile
public import Idealize.ShloMosaic.Lib.Pipeline.ReadBack

/-! What a grid point of the feed-forward kernel loads, given its input blocks: the loads of its windows, and those of
    the buffers that it has itself stored to. -/

@[expose] public section

set_option maxRecDepth 16384

noncomputable section

namespace Cert.Kernel2Ideal.Ffn

open Idealize.ShloMosaic Idealize.ShloMosaic.TcCoe Idealize.ShloMosaic.Tactic Finset Cert.Ffn
open Cert.Kernel2Ideal Cert.Kernel2Ideal.Gen

/-! ## Stores read back -/

section Canon

variable {s : Shape} {e : EltTy} {off size : Fin s.rank → ℕ} (inb : ∀ a, off a + size a ≤ s.size a)
  (w : (Rect.unit off size inb).shape.Idx → Elt Ideal e) (L : List (View.Piece (Elt Ideal) s e))

/-- Under the last store: its payload. -/
theorem canon_hit (y : s.Idx) (x : (Rect.unit off size inb).shape.Idx) (h : ∀ a, (y a).val = off a + (x a).val) :
    View.canon (⟨Rect.unit off size inb, w⟩ :: L) y = w x := by
  have hy : (Rect.unit off size inb).emb x = y := funext fun a => Fin.ext (by
    rw [h a]
    show off a + 1 * (x a).val = _
    rw [one_mul])
  rw [← hy, View.canon_cons_emb]

/-- Off the last store: the earlier ones. -/
theorem canon_miss (y : s.Idx) (h : ∃ a, (y a).val < off a ∨ off a + size a ≤ (y a).val) :
    View.canon (⟨Rect.unit off size inb, w⟩ :: L) y = View.canon L y := by
  refine View.canon_cons_of_not_mem _ L fun hm => ?_
  obtain ⟨a, ha⟩ := h
  have := (Rect.mem_set_unit (inb := inb) |>.mp hm) a
  omega

end Canon

/-- A load of a window that holds `X`. -/
theorem load_at {s : Shape} {e : EltTy} {m : Memref sig .tc .vmem s e} (h : m.IsWhole) (X : s.Idx → Elt Ideal e) {off size : Fin s.rank → ℕ}
    (inb : ∀ a, off a + size a ≤ s.size a) (x : (Rect.unit off size inb).shape.Idx) (y : s.Idx) (hy : ∀ a, (y a).val = off a + (x a).val) :
    View.readAt (Elt Ideal) m.view (Rect.unit off size inb).toLoadRect (h.unread X) x = X y := by
  rw [Memref.IsWhole.readAt_unread]
  exact congrArg X (funext fun a => Fin.ext ((show off a + 1 * (x a).val = _ by rw [one_mul]).trans (hy a).symm))

/-- The input blocks of a grid point: block `i` of batch element `b`. -/
structure Blk (A : Args) (b : Fin 16) (i : Fin 8) (x0 : Vec Ideal S1x512x1024 .f32) (x1 x2 : Vec Ideal S1x4x512x128 .bf16)
    (x3 : Vec Ideal S1x4x1024 .f32) (x4 x5 x6 : Vec Ideal S1x1024 .f32) (x7 : Vec Ideal S1024x1024 .bf16) (x8 : Vec Ideal S1024x5632 .bf16)
    (x9 : Vec Ideal S8x5632 .f32) (x10 : Vec Ideal S2816x1024 .bf16) : Prop where
  x : ∀ (r : Fin 512) (e : Fin 1024), x0 (ix3 0 r e) = A.x (ix3 b (tok i r) e)
  ret : ∀ (h : Fin 4) (r : Fin 512) (d : Fin 128), x1 (ix4 0 h r d) = A.ret (ix4 b h (tok i r) d)
  four : ∀ (h : Fin 4) (r : Fin 512) (d : Fin 128), x2 (ix4 0 h r d) = A.four (ix4 b h (tok i r) d)
  md : ∀ (k : Fin 4) (e : Fin 1024), x3 (ix3 0 k e) = Ffn.md A ⟨k.val + 2, by omega⟩ b e
  gpost : ∀ e : Fin 1024, x4 (ix2 0 e) = A.gpost (ix1 e)
  gpre : ∀ e : Fin 1024, x5 (ix2 0 e) = A.gpre (ix1 e)
  gout : ∀ e : Fin 1024, x6 (ix2 0 e) = A.gout (ix1 e)
  wo : ∀ c e : Fin 1024, x7 (ix2 c e) = A.wo (ix2 c e)
  wu : ∀ (e : Fin 1024) (n : Fin 5632), x8 (ix2 e n) = A.wu (ix2 e n)
  cw : ∀ (k : Fin 3) (n : Fin 5632), x9 (ix2 ⟨k.val, by omega⟩ n) = A.cw (ix2 k n)
  cb : ∀ n : Fin 5632, x9 (ix2 3 n) = A.cb (ix1 n)
  wd : ∀ (f : Fin 2816) (e : Fin 1024), x10 (ix2 f e) = A.wd (ix2 f e)

variable {A : Args} {b : Fin 16} {i : Fin 8} {x0 : Vec Ideal S1x512x1024 .f32} {x1 x2 : Vec Ideal S1x4x512x128 .bf16}
  {x3 : Vec Ideal S1x4x1024 .f32} {x4 x5 x6 : Vec Ideal S1x1024 .f32} {x7 : Vec Ideal S1024x1024 .bf16} {x8 : Vec Ideal S1024x5632 .bf16}
  {x9 : Vec Ideal S8x5632 .f32} {x10 : Vec Ideal S2816x1024 .bf16} (B : Blk A b i x0 x1 x2 x3 x4 x5 x6 x7 x8 x9 x10)

/-! ## The modulation and the gains -/

section Gains

variable {arg5 : Memref sig .tc .vmem S1x4x1024 .f32} (h5 : arg5.IsWhole)

/-- Row `k` of the modulation's block. -/
abbrev modRow (x3 : Vec Ideal S1x4x1024 .f32) (k : ℕ) (hk : k < 4) : Vec Ideal S1x1x1024 .f32 :=
  View.readAt (Elt Ideal) arg5.view (Rect.unit (s := S1x4x1024) ![0, k, 0] S1x1x1024.size (fun a => by
    fin_cases a
    · show 0 + 1 ≤ 1; omega
    · show k + 1 ≤ 4; omega
    · show 0 + 1024 ≤ 1024; omega)).toLoadRect (h5.unread x3)

/-- A gain's row. -/
abbrev gainRow {m : Memref sig .tc .vmem S1x1024 .f32} (h : m.IsWhole) (x : Vec Ideal S1x1024 .f32) : Vec Ideal S1x1024 .f32 :=
  View.readAt (Elt Ideal) m.view (Rect.unit ![0, 0] S1x1024.size inb_S1x1024_S1x1024_0_0).toLoadRect (h.unread x)

include B in
theorem modRow_at (k : ℕ) (hk : k < 4) (e : Fin 1024) : modRow h5 x3 k hk (ix3 0 0 e) = md A ⟨k + 2, by omega⟩ b e := by
  rw [← B.md ⟨k, hk⟩ e]
  exact load_at h5 x3 _ _ _ fun a => by fin_cases a <;> first | rfl | exact (Nat.zero_add _).symm

theorem gainRow_at {m : Memref sig .tc .vmem S1x1024 .f32} (h : m.IsWhole) (x : Vec Ideal S1x1024 .f32) (e : Fin 1024) :
    gainRow h x (ix2 0 e) = x (ix2 0 e) :=
  load_at h x _ _ _ fun a => by fin_cases a <;> exact (Nat.zero_add _).symm

variable {arg6 arg7 arg8 : Memref sig .tc .vmem S1x1024 .f32} (h6 : arg6.IsWhole) (h7 : arg7.IsWhole) (h8 : arg8.IsWhole)

include B in
theorem gainMid (e : Fin 1024) : k0_pay2 (modRow h5 x3 0 (by omega)) (gainRow h6 x4) (ix2 0 e) = A.gpost (ix1 e) * md A 2 b e := by
  unfold k0_pay2; pointwise
  rw [modRow_at B h5, gainRow_at, B.gpost]
  rfl

include B in
theorem shiftHid (e : Fin 1024) : k0_pay1 (modRow h5 x3 1 (by omega)) (ix2 0 e) = md A 3 b e := by
  unfold k0_pay1; pointwise
  rw [modRow_at B h5]
  rfl

include B in
theorem gainHid (e : Fin 1024) : k0_pay3 (modRow h5 x3 2 (by omega)) (gainRow h7 x5) (ix2 0 e) = A.gpre (ix1 e) * (1 + md A 4 b e) := by
  unfold k0_pay3; pointwise
  rw [modRow_at B h5, gainRow_at, B.gpre]
  rfl

include B in
theorem gainOut (e : Fin 1024) : k0_pay4 (modRow h5 x3 3 (by omega)) (gainRow h8 x6) (ix2 0 e) = A.gout (ix1 e) * md A 5 b e := by
  unfold k0_pay4; pointwise
  rw [modRow_at B h5, gainRow_at, B.gout]
  rfl

end Gains

/-! ## The stream after the mixing part -/

section Mid

variable {arg2 : Memref sig .tc .vmem S1x512x1024 .f32} (h2 : arg2.IsWhole) {arg3 : Memref sig .tc .vmem S1x4x512x128 .bf16} (h3 : arg3.IsWhole)
  {arg4 : Memref sig .tc .vmem S1x4x512x128 .bf16} (h4 : arg4.IsWhole) {arg5 : Memref sig .tc .vmem S1x4x1024 .f32} (h5 : arg5.IsWhole)
  {arg6 arg7 : Memref sig .tc .vmem S1x1024 .f32} (h6 : arg6.IsWhole) (h7 : arg7.IsWhole) {arg9 : Memref sig .tc .vmem S1024x1024 .bf16} (h9 : arg9.IsWhole)

/-- 256 rows of a head. -/
abbrev headRows {m : Memref sig .tc .vmem S1x4x512x128 .bf16} (h : m.IsWhole) (x : Vec Ideal S1x4x512x128 .bf16) (k o : ℕ) (hk : k < 4 ∧ o ≤ 256) :
    Vec Ideal S1x1x256x128 .bf16 :=
  View.readAt (Elt Ideal) m.view (Rect.unit (s := S1x4x512x128) ![0, k, o, 0] S1x1x256x128.size (fun a => by
    obtain ⟨h0, h1⟩ := hk
    fin_cases a
    · show 0 + 1 ≤ 1; omega
    · show k + 1 ≤ 4; omega
    · show o + 256 ≤ 512; omega
    · show 0 + 128 ≤ 128; omega)).toLoadRect (h.unread x)

theorem headRows_at {m : Memref sig .tc .vmem S1x4x512x128 .bf16} (h : m.IsWhole) (x : Vec Ideal S1x4x512x128 .bf16) (k o : ℕ) (hk : k < 4 ∧ o ≤ 256)
    (r : Fin 256) (d : Fin 128) : headRows h x k o hk (ix4 0 0 r d) = x (ix4 0 ⟨k, hk.1⟩ ⟨o + r.val, by omega⟩ d) :=
  load_at h x _ _ _ fun a => by fin_cases a <;> first | rfl | exact (Nat.zero_add _).symm

/-- The rectangle of 256 rows of the stream's block. -/
abbrev rows256 (o : ℕ) (ho : o ≤ 256) : Rect S1x512x1024 :=
  Rect.unit (s := S1x512x1024) ![0, o, 0] S1x256x1024.size (fun a => by
    fin_cases a
    · show 0 + 1 ≤ 1; omega
    · show o + 256 ≤ 512; omega
    · show 0 + 1024 ≤ 1024; omega)

/-- The stream's rows after the mixing part, of the loads. -/
def midO (x0 : Vec Ideal S1x512x1024 .f32) (x1 x2 : Vec Ideal S1x4x512x128 .bf16) (x3 : Vec Ideal S1x4x1024 .f32) (x4 : Vec Ideal S1x1024 .f32)
    (x7 : Vec Ideal S1024x1024 .bf16) (o : ℕ) (ho : o ≤ 256) : FVec Ideal S256x1024 .f32 :=
  midRows (k0_pay2 (modRow h5 x3 0 (by omega)) (gainRow h6 x4))
    (headRows h3 x1 0 o ⟨by omega, ho⟩) (headRows h3 x1 1 o ⟨by omega, ho⟩) (headRows h3 x1 2 o ⟨by omega, ho⟩) (headRows h3 x1 3 o ⟨by omega, ho⟩)
    (headRows h4 x2 0 o ⟨by omega, ho⟩) (headRows h4 x2 1 o ⟨by omega, ho⟩) (headRows h4 x2 2 o ⟨by omega, ho⟩) (headRows h4 x2 3 o ⟨by omega, ho⟩)
    (View.readAt (Elt Ideal) arg9.view (Rect.unit ![0, 0] S1024x1024.size inb_S1024x1024_S1024x1024_0_0).toLoadRect (h9.unread x7))
    (View.readAt (Elt Ideal) arg2.view (rows256 o ho).toLoadRect (h2.unread x0))

include B in
theorem midO_at (o : ℕ) (ho : o ≤ 256) (r : Fin 256) (e : Fin 1024) :
    midO h2 h3 h4 h5 h6 h9 x0 x1 x2 x3 x4 x7 o ho (ix2 r e) = mid A b (tok i ⟨o + r.val, by omega⟩) e := by
  unfold midO
  refine midRows_at _ _ _ _ _ _ _ _ _ _ _ A b (fun r => tok i ⟨o + r.val, by omega⟩) (gainMid B h5 h6)
    (fun r d => (headRows_at h3 x1 0 o _ r d).trans (B.ret _ _ _)) (fun r d => (headRows_at h3 x1 1 o _ r d).trans (B.ret _ _ _))
    (fun r d => (headRows_at h3 x1 2 o _ r d).trans (B.ret _ _ _)) (fun r d => (headRows_at h3 x1 3 o _ r d).trans (B.ret _ _ _))
    (fun r d => (headRows_at h4 x2 0 o _ r d).trans (B.four _ _ _)) (fun r d => (headRows_at h4 x2 1 o _ r d).trans (B.four _ _ _))
    (fun r d => (headRows_at h4 x2 2 o _ r d).trans (B.four _ _ _)) (fun r d => (headRows_at h4 x2 3 o _ r d).trans (B.four _ _ _))
    (fun c e => (load_at h9 x7 _ _ (ix2 c e) fun a => by fin_cases a <;> exact (Nat.zero_add _).symm).trans (B.wo c e))
    (fun r e => (load_at h2 x0 _ _ (ix3 0 ⟨o + r.val, by omega⟩ e) fun a => by fin_cases a <;> first | rfl | exact (Nat.zero_add _).symm).trans (B.x _ _)) r e

/-- The feed-forward part's input rows, of the loads. -/
def hidO (x0 : Vec Ideal S1x512x1024 .f32) (x1 x2 : Vec Ideal S1x4x512x128 .bf16) (x3 : Vec Ideal S1x4x1024 .f32) (x4 x5 : Vec Ideal S1x1024 .f32)
    (x7 : Vec Ideal S1024x1024 .bf16) (o : ℕ) (ho : o ≤ 256) : FVec Ideal S256x1024 .bf16 :=
  k0_pay10 (k0_pay1 (modRow h5 x3 1 (by omega))) (k0_pay3 (modRow h5 x3 2 (by omega)) (gainRow h7 x5))
    (midO h2 h3 h4 h5 h6 h9 x0 x1 x2 x3 x4 x7 o ho)

include B in
theorem hidO_at (o : ℕ) (ho : o ≤ 256) (r : Fin 256) (e : Fin 1024) :
    hidO h2 h3 h4 h5 h6 h7 h9 x0 x1 x2 x3 x4 x5 x7 o ho (ix2 r e) = hid A b (tok i ⟨o + r.val, by omega⟩) e :=
  hidRows_at _ _ _ A b (fun r => tok i ⟨o + r.val, by omega⟩) (shiftHid B h5) (gainHid B h5 h7) (midO_at B h2 h3 h4 h5 h6 h9 o ho) r e

/-- The buffer of the feed-forward part's input: two stores. -/
def hidL (x0 : Vec Ideal S1x512x1024 .f32) (x1 x2 : Vec Ideal S1x4x512x128 .bf16) (x3 : Vec Ideal S1x4x1024 .f32) (x4 x5 : Vec Ideal S1x1024 .f32)
    (x7 : Vec Ideal S1024x1024 .bf16) : List (View.Piece (Elt Ideal) S512x1024 .bf16) :=
  [⟨Rect.unit ![256, 0] S256x1024.size inb_S512x1024_S256x1024_256_0, hidO h2 h3 h4 h5 h6 h7 h9 x0 x1 x2 x3 x4 x5 x7 256 (by omega)⟩,
    ⟨Rect.unit ![0, 0] S256x1024.size inb_S512x1024_S256x1024_0_0, hidO h2 h3 h4 h5 h6 h7 h9 x0 x1 x2 x3 x4 x5 x7 0 (by omega)⟩]

/-- … and its load. -/
def hidV (arg14 : Memref sig .tc .vmem S512x1024 .bf16) (x0 : Vec Ideal S1x512x1024 .f32) (x1 x2 : Vec Ideal S1x4x512x128 .bf16) (x3 : Vec Ideal S1x4x1024 .f32)
    (x4 x5 : Vec Ideal S1x1024 .f32) (x7 : Vec Ideal S1024x1024 .bf16) : Vec Ideal S512x1024 .bf16 :=
  arg14.view.readCov (hidL h2 h3 h4 h5 h6 h7 h9 x0 x1 x2 x3 x4 x5 x7) (Rect.unit ![0, 0] S512x1024.size inb_S512x1024_S512x1024_0_0).toLoadRect

include B in
theorem hidV_at (arg14 : Memref sig .tc .vmem S512x1024 .bf16) (r : Fin 512) (e : Fin 1024) :
    hidV h2 h3 h4 h5 h6 h7 h9 arg14 x0 x1 x2 x3 x4 x5 x7 (ix2 r e) = hid A b (tok i r) e := by
  unfold hidV
  rw [View.readCov_eq_canon']
  have hy : (Rect.unit (s := S512x1024) ![0, 0] S512x1024.size inb_S512x1024_S512x1024_0_0).toLoadRect.idx (ix2 r e) = ix2 r e :=
    funext fun a => Fin.ext (by fin_cases a <;> exact (Nat.zero_add _).trans (Nat.one_mul _))
  show View.canon _ ((Rect.unit (s := S512x1024) ![0, 0] S512x1024.size inb_S512x1024_S512x1024_0_0).toLoadRect.idx (ix2 r e)) = _
  rw [hy]
  unfold hidL
  by_cases h : r.val < 256
  · rw [canon_miss _ _ _ _ ⟨0, Or.inl h⟩]
    refine (canon_hit _ _ _ _ (ix2 ⟨r.val, h⟩ e) fun a => by fin_cases a <;> exact (Nat.zero_add _).symm).trans ?_
    rw [hidO_at B]
    exact congrArg (fun r => hid A b (tok i r) e) (Fin.ext (Nat.zero_add _))
  · refine (canon_hit _ _ _ _ (ix2 ⟨r.val - 256, by omega⟩ e) fun a => by
      fin_cases a
      · show r.val = 256 + (r.val - 256); omega
      · exact (Nat.zero_add _).symm).trans ?_
    rw [hidO_at B]
    exact congrArg (fun r => hid A b (tok i r) e) (Fin.ext (show 256 + (r.val - 256) = r.val by omega))

end Mid

/-! ## The activation -/

section Act

variable {arg10 : Memref sig .tc .vmem S1024x5632 .bf16} (h10 : arg10.IsWhole) {arg11 : Memref sig .tc .vmem S8x5632 .f32} (h11 : arg11.IsWhole)

/-- A block of columns of the up projection's matrix. -/
abbrev upCols (x8 : Vec Ideal S1024x5632 .bf16) (n : ℕ) (hn : n ≤ 5376) : Vec Ideal S1024x256 .bf16 :=
  View.readAt (Elt Ideal) arg10.view (Rect.unit (s := S1024x5632) ![0, n] S1024x256.size (fun a => by
    fin_cases a
    · show 0 + 1024 ≤ 1024; omega
    · show n + 256 ≤ 5632; omega)).toLoadRect (h10.unread x8)

/-- A tap's row. -/
abbrev tapRow (x9 : Vec Ideal S8x5632 .f32) (k n : ℕ) (hn : k < 8 ∧ n ≤ 5504) : Vec Ideal S1x128 .f32 :=
  View.readAt (Elt Ideal) arg11.view (Rect.unit (s := S8x5632) ![k, n] S1x128.size (fun a => by
    obtain ⟨h0, h1⟩ := hn
    fin_cases a
    · show k + 1 ≤ 8; omega
    · show n + 128 ≤ 5632; omega)).toLoadRect (h11.unread x9)

theorem upCols_at (x8 : Vec Ideal S1024x5632 .bf16) (n : ℕ) (hn : n ≤ 5376) (e : Fin 1024) (l : Fin 256) :
    upCols h10 x8 n hn (ix2 e l) = x8 (ix2 e ⟨n + l.val, by omega⟩) :=
  load_at h10 x8 _ _ _ fun a => by fin_cases a <;> first | rfl | exact (Nat.zero_add _).symm

theorem tapRow_at (x9 : Vec Ideal S8x5632 .f32) (k n : ℕ) (hn : k < 8 ∧ n ≤ 5504) (l : Fin 128) :
    tapRow h11 x9 k n hn (ix2 0 l) = x9 (ix2 ⟨k, hn.1⟩ ⟨n + l.val, by omega⟩) :=
  load_at h11 x9 _ _ _ fun a => by fin_cases a <;> rfl

/-- The buffer of the up projection after two column blocks are stored over what was there. -/
abbrev upL (x8 : Vec Ideal S1024x5632 .bf16) (hh : Vec Ideal S512x1024 .bf16) (sa sb na nb : ℕ) (hs : sa < 22) (hs' : sb < 22) (hn : na ≤ 5376) (hn' : nb ≤ 5376)
    (rest : List (View.Piece (Elt Ideal) S22x2x528x128 .f32)) : List (View.Piece (Elt Ideal) S22x2x528x128 .f32) :=
  ⟨tileR sb 1 ⟨hs', by omega⟩, k0_pay30 hh (upCols h10 x8 nb hn')⟩ :: ⟨tileR sb 0 ⟨hs', by omega⟩, k0_pay29 hh (upCols h10 x8 nb hn')⟩ ::
    ⟨tileR sa 1 ⟨hs, by omega⟩, k0_pay30 hh (upCols h10 x8 na hn)⟩ :: ⟨tileR sa 0 ⟨hs, by omega⟩, k0_pay29 hh (upCols h10 x8 na hn)⟩ :: rest

include B in
theorem upTile_at (hh : Vec Ideal S512x1024 .bf16) (hH : ∀ (r : Fin 512) (e : Fin 1024), hh (ix2 r e) = hid A b (tok i r) e) (n : ℕ) (hn : n ≤ 5376)
    (lt : ℕ) (hlt : lt < 2) (w : Vec Ideal S1x1x512x128 .f32)
    (hw : w = if lt = 0 then k0_pay29 hh (upCols h10 x8 n hn) else k0_pay30 hh (upCols h10 x8 n hn)) (r : Fin 512) (l : Fin 128) :
    w (ix4 0 0 r l) = up A b (tok i r) ⟨n + 128 * lt + l.val, by omega⟩ := by
  subst hw
  unfold up
  obtain rfl | rfl : lt = 0 ∨ lt = 1 := by omega
  · rw [if_pos rfl, tile_at]
    refine sum_congr rfl fun e _ => ?_
    rw [hH, upCols_at, B.wu]
    exact congrArg (fun n => _ * A.wu (ix2 e n)) (Fin.ext (show n + l.val = n + 128 * 0 + l.val by omega))
  · rw [if_neg (by omega), tile_at']
    refine sum_congr rfl fun e _ => ?_
    rw [hH, upCols_at, B.wu]
    exact congrArg (fun n => _ * A.wu (ix2 e n)) (Fin.ext (show n + (128 + l.val) = n + 128 * 1 + l.val by omega))

include B in
/-- The tiles just stored are the up projection's. -/
theorem upL_at (hh : Vec Ideal S512x1024 .bf16) (hH : ∀ (r : Fin 512) (e : Fin 1024), hh (ix2 r e) = hid A b (tok i r) e) (sa sb na nb : ℕ) (hs : sa < 22)
    (hs' : sb < 22) (hn : na ≤ 5376) (hn' : nb ≤ 5376) (rest : List (View.Piece (Elt Ideal) S22x2x528x128 .f32)) (hne : sa ≠ sb)
    (lt : ℕ) (hlt : lt < 2) (r : Fin 512) (l : Fin 128) :
    View.canon (upL h10 x8 hh sa sb na nb hs hs' hn hn' rest) (ix4 ⟨sa, hs⟩ ⟨lt, hlt⟩ ⟨8 + r.val, by omega⟩ l) = up A b (tok i r) ⟨na + 128 * lt + l.val, by omega⟩
    ∧ View.canon (upL h10 x8 hh sa sb na nb hs hs' hn hn' rest) (ix4 ⟨sb, hs'⟩ ⟨lt, hlt⟩ ⟨8 + r.val, by omega⟩ l) = up A b (tok i r) ⟨nb + 128 * lt + l.val, by omega⟩ := by
  have off : ∀ (s s' lt lt' : ℕ) (hs : s < 22) (hs' : s' < 22) (hlt : lt < 2) (hlt' : lt' < 2) (w : Vec Ideal S1x1x512x128 .f32)
      (L : List (View.Piece (Elt Ideal) S22x2x528x128 .f32)), s ≠ s' ∨ lt ≠ lt' →
      View.canon (⟨tileR s' lt' ⟨hs', hlt'⟩, w⟩ :: L) (ix4 ⟨s, hs⟩ ⟨lt, hlt⟩ ⟨8 + r.val, by omega⟩ l) = View.canon L (ix4 ⟨s, hs⟩ ⟨lt, hlt⟩ ⟨8 + r.val, by omega⟩ l) := by
    intro s s' lt lt' hs hs' hlt hlt' w L h
    rcases h with h | h
    · exact canon_miss (s := S22x2x528x128) (off := ![s', lt', 8, 0]) (size := S1x1x512x128.size) _ w L _ ⟨0, show s < s' ∨ s' + 1 ≤ s by omega⟩
    · exact canon_miss (s := S22x2x528x128) (off := ![s', lt', 8, 0]) (size := S1x1x512x128.size) _ w L _ ⟨1, show lt < lt' ∨ lt' + 1 ≤ lt by omega⟩
  have on : ∀ (s lt : ℕ) (hs : s < 22) (hlt : lt < 2) (w : Vec Ideal S1x1x512x128 .f32)
      (L : List (View.Piece (Elt Ideal) S22x2x528x128 .f32)),
      View.canon (⟨tileR s lt ⟨hs, hlt⟩, w⟩ :: L) (ix4 ⟨s, hs⟩ ⟨lt, hlt⟩ ⟨8 + r.val, by omega⟩ l) = w (ix4 0 0 r l) := fun s lt hs hlt w L =>
    canon_hit (s := S22x2x528x128) (off := ![s, lt, 8, 0]) (size := S1x1x512x128.size) _ w L _ (ix4 0 0 r l) fun a => by
      fin_cases a <;> first | rfl | exact (Nat.zero_add _).symm
  have h0 : (0 : ℕ) < 2 := by omega
  have h1 : (1 : ℕ) < 2 := by omega
  obtain rfl | rfl : lt = 0 ∨ lt = 1 := by omega
  · constructor
    · exact (off sa sb 0 1 hs hs' h0 h1 _ _ (Or.inl hne)).trans ((off sa sb 0 0 hs hs' h0 h0 _ _ (Or.inl hne)).trans
        ((off sa sa 0 1 hs hs h0 h1 _ _ (Or.inr (by omega))).trans ((on sa 0 hs h0 _ _).trans (upTile_at B h10 hh hH na hn 0 hlt _ rfl r l))))
    · exact (off sb sb 0 1 hs' hs' h0 h1 _ _ (Or.inr (by omega))).trans ((on sb 0 hs' h0 _ _).trans (upTile_at B h10 hh hH nb hn' 0 hlt _ rfl r l))
  · constructor
    · exact (off sa sb 1 1 hs hs' h1 h1 _ _ (Or.inl hne)).trans ((off sa sb 1 0 hs hs' h1 h0 _ _ (Or.inl hne)).trans
        ((on sa 1 hs h1 _ _).trans (upTile_at B h10 hh hH na hn 1 hlt _ rfl r l)))
    · exact (on sb 1 hs' h1 _ _).trans (upTile_at B h10 hh hH nb hn' 1 hlt _ rfl r l)

/-- The gated activation as one function of the block's row and the column. -/
def actG (A : Args) (b : Fin 16) (i : Fin 8) : S512x2816.Idx → Elt Ideal .bf16 := fun y => act A b (tok i (y 0)) (y 1)

include B in
/-- A tile of the activation. -/
theorem actTile_at (v : View sig .tc .vmem S22x2x528x128 .f32) (hh : Vec Ideal S512x1024 .bf16) (hH : ∀ (r : Fin 512) (e : Fin 1024), hh (ix2 r e) = hid A b (tok i r) e)
    (sa sb na nb lt lo hi : ℕ) (hs : sa < 22)
    (hs' : sb < 22) (hn : na ≤ 5376) (hn' : nb ≤ 5376) (rest : List (View.Piece (Elt Ideal) S22x2x528x128 .f32)) (hlt : lt < 2)
    (hlo : lo ≤ 5504) (hhi : hi ≤ 5504) (inb : ∀ a, (![0, lo] : Fin 2 → ℕ) a + S512x128.size a ≤ S512x2816.size a)
    (hnum : sa ≠ sb ∧ lo = na + 128 * lt ∧ hi = 2816 + lo ∧ nb = 2816 + na) (x : S512x128.Idx) :
    gated
      (convTile v (upL h10 x8 hh sa sb na nb hs hs' hn hn' rest) sa lt ⟨hs, hlt⟩ (tapRow h11 x9 0 lo ⟨by omega, hlo⟩) (tapRow h11 x9 1 lo ⟨by omega, hlo⟩)
        (tapRow h11 x9 2 lo ⟨by omega, hlo⟩) (tapRow h11 x9 3 lo ⟨by omega, hlo⟩))
      (convTile v (upL h10 x8 hh sa sb na nb hs hs' hn hn' rest) sb lt ⟨hs', hlt⟩ (tapRow h11 x9 0 hi ⟨by omega, hhi⟩) (tapRow h11 x9 1 hi ⟨by omega, hhi⟩)
        (tapRow h11 x9 2 hi ⟨by omega, hhi⟩) (tapRow h11 x9 3 hi ⟨by omega, hhi⟩)) x
      = actG A b i ((Rect.unit (s := S512x2816) ![0, lo] S512x128.size inb).emb x) := by
  obtain ⟨hne, rfl, rfl, rfl⟩ := hnum
  have hlo' : na + 128 * lt + 128 ≤ 2816 := inb 1
  obtain ⟨r, l, rfl⟩ : ∃ (r : Fin 512) (l : Fin 128), x = ix2 r l := ⟨x 0, x 1, eq_ix2 x⟩
  have hU := fun r l => upL_at B h10 hh hH sa (sb := sb) (na := na) (nb := 2816 + na) hs hs' hn hn' rest hne lt hlt r l
  have hcw : ∀ (k : Fin 3) (n : ℕ) (hn : n ≤ 5504) (l : Fin 128), tapRow h11 x9 k.val n ⟨by omega, hn⟩ (ix2 0 l) = A.cw (ix2 k ⟨n + l.val, by omega⟩) :=
    fun k n hn l => (tapRow_at h11 x9 _ _ _ l).trans (B.cw k _)
  have hcb : ∀ (n : ℕ) (hn : n ≤ 5504) (l : Fin 128), tapRow h11 x9 3 n ⟨by omega, hn⟩ (ix2 0 l) = A.cb (ix1 ⟨n + l.val, by omega⟩) :=
    fun n hn l => (tapRow_at h11 x9 _ _ _ l).trans (B.cb _)
  refine (gated_at _ _ r l).trans ((congrArg₂ (fun p q => silu p * q) (convTile_at v _ A b i sa lt ⟨hs, hlt⟩ _ _ _ _ (na + 128 * lt) (by omega) (fun r l => (hU r l).1) (hcw 0 _ hlo) (hcw 1 _ hlo) (hcw 2 _ hlo) (hcb _ hlo) r l)
    (convTile_at v _ A b i sb lt ⟨hs', hlt⟩ _ _ _ _ (2816 + (na + 128 * lt)) (by omega)
      (fun r l => (hU r l).2.trans (congrArg (up A b (tok i r)) (Fin.ext (show 2816 + na + 128 * lt + l.val = 2816 + (na + 128 * lt) + l.val by omega))))
      (hcw 0 _ hhi) (hcw 1 _ hhi) (hcw 2 _ hhi) (hcb _ hhi) r l)).trans ?_)
  have hy : (Rect.unit (s := S512x2816) ![0, na + 128 * lt] S512x128.size inb).emb (ix2 r l) = ix2 r ⟨na + 128 * lt + l.val, by omega⟩ :=
    funext fun a => Fin.ext (by
      fin_cases a
      · show 0 + 1 * r.val = r.val; omega
      · show na + 128 * lt + 1 * l.val = na + 128 * lt + l.val; omega)
  rw [hy]
  show _ = act A b (tok i r) ⟨na + 128 * lt + l.val, _⟩
  unfold act
  exact congrArg (fun n => _ * conv A b (tok i r) n) (Fin.ext (show 2816 + (na + 128 * lt) + l.val = 2816 + (na + 128 * lt + l.val) by omega))

include B in
/-- A store of a tile of the activation before stores of it, with the store's parts named by equations. -/
theorem act_cons {v : View sig .tc .vmem S22x2x528x128 .f32} {L : List (View.Piece (Elt Ideal) S22x2x528x128 .f32)} {hh : Vec Ideal S512x1024 .bf16}
    {sa sb na nb lt lo hi : ℕ} {hs : sa < 22} {hs' : sb < 22} {hlt : lt < 2} {tp tc tn tb up uc un ub : Vec Ideal S1x128 .f32}
    {inb : ∀ a, (![0, lo] : Fin 2 → ℕ) a + S512x128.size a ≤ S512x2816.size a} {w : FVec Ideal S512x128 .bf16}
    {M : List (View.Piece (Elt Ideal) S512x2816 .bf16)}
    {rest : List (View.Piece (Elt Ideal) S22x2x528x128 .f32)} {hn : na ≤ 5376} {hn' : nb ≤ 5376} {hlo : lo ≤ 5504} {hhi : hi ≤ 5504}
    (hw : w = shapeCast S512x128 (gated (convTile v L sa lt ⟨hs, hlt⟩ tp tc tn tb) (convTile v L sb lt ⟨hs', hlt⟩ up uc un ub)) shapeCasts_S512x128_S512x128)
    (hL : L = upL h10 x8 hh sa sb na nb hs hs' hn hn' rest)
    (htp : tp = tapRow h11 x9 0 lo ⟨by omega, hlo⟩) (htc : tc = tapRow h11 x9 1 lo ⟨by omega, hlo⟩)
    (htn : tn = tapRow h11 x9 2 lo ⟨by omega, hlo⟩) (htb : tb = tapRow h11 x9 3 lo ⟨by omega, hlo⟩)
    (hup : up = tapRow h11 x9 0 hi ⟨by omega, hhi⟩) (huc : uc = tapRow h11 x9 1 hi ⟨by omega, hhi⟩)
    (hun : un = tapRow h11 x9 2 hi ⟨by omega, hhi⟩) (hub : ub = tapRow h11 x9 3 hi ⟨by omega, hhi⟩)
    (hH : ∀ (r : Fin 512) (e : Fin 1024), hh (ix2 r e) = hid A b (tok i r) e)
    (hnum : sa ≠ sb ∧ lo = na + 128 * lt ∧ hi = 2816 + lo ∧ nb = 2816 + na) (hM : View.PiecesOf (actG A b i) M) :
    View.PiecesOf (actG A b i) (⟨Rect.unit (s := S512x2816) ![0, lo] S512x128.size inb, w⟩ :: M) := by
  refine ⟨fun x => ?_, hM⟩
  subst hw hL htp htc htn htb hup huc hun hub
  exact (congrFun (shapeCast_self _ shapeCasts_S512x128_S512x128) x).trans
    (actTile_at B h10 h11 v hh hH sa sb na nb lt lo hi hs hs' hn hn' rest hlt hlo hhi inb hnum x)

end Act

end Cert.Kernel2Ideal.Ffn

end
-- ==== Proof.FfnBlock.lean ====
module

public import proofs.«01_k».proof.Proof.FfnLoad
public import proofs.«01_k».proof.Proof.Gen.Kernel2Ideal.Frame

/-! What a grid point of the feed-forward kernel stores in the activation's buffer. -/

@[expose] public section

set_option maxRecDepth 16384
set_option maxHeartbeats 0

noncomputable section

namespace Cert.Kernel2Ideal.Ffn

open Idealize.ShloMosaic Idealize.ShloMosaic.TcCoe Idealize.ShloMosaic.Tactic Cert.Ffn
open Cert.Kernel2Ideal Cert.Kernel2Ideal.Gen

/- Kept folded, so that a template and a stored value are compared operation by operation. -/
attribute [local irreducible] Idealize.ShloMosaic.shapeCast Idealize.ShloMosaic.broadcastTo Idealize.ShloMosaic.extractStridedSlice Idealize.ShloMosaic.mulf
  Idealize.ShloMosaic.addf Idealize.ShloMosaic.subf Idealize.ShloMosaic.divf Idealize.ShloMosaic.exp Idealize.ShloMosaic.truncf Idealize.ShloMosaic.concatenate
  Idealize.ShloMosaic.broadcast k0_pay22 k0_pay23 View.readCov View.readAt

variable {A : Args} {b : Fin 16} {i : Fin 8} {x0 : Vec Ideal S1x512x1024 .f32} {x1 x2 : Vec Ideal S1x4x512x128 .bf16}
  {x3 : Vec Ideal S1x4x1024 .f32} {x4 x5 x6 : Vec Ideal S1x1024 .f32} {x7 : Vec Ideal S1024x1024 .bf16} {x8 : Vec Ideal S1024x5632 .bf16}
  {x9 : Vec Ideal S8x5632 .f32} {x10 : Vec Ideal S2816x1024 .bf16} (B : Blk A b i x0 x1 x2 x3 x4 x5 x6 x7 x8 x9 x10)

variable (c : Dev nD) (co : grid0.Coords) (arg2 : Memref sig .tc .vmem S1x512x1024 .f32) (h2 : arg2.IsWhole) (arg3 : Memref sig .tc .vmem S1x4x512x128 .bf16)
  (h3 : arg3.IsWhole) (arg4 : Memref sig .tc .vmem S1x4x512x128 .bf16) (h4 : arg4.IsWhole) (arg5 : Memref sig .tc .vmem S1x4x1024 .f32)
  (h5 : arg5.IsWhole) (arg6 : Memref sig .tc .vmem S1x1024 .f32) (h6 : arg6.IsWhole) (arg7 : Memref sig .tc .vmem S1x1024 .f32) (h7 : arg7.IsWhole)
  (arg8 : Memref sig .tc .vmem S1x1024 .f32) (h8 : arg8.IsWhole) (arg9 : Memref sig .tc .vmem S1024x1024 .bf16) (h9 : arg9.IsWhole)
  (arg10 : Memref sig .tc .vmem S1024x5632 .bf16) (h10 : arg10.IsWhole) (arg11 : Memref sig .tc .vmem S8x5632 .f32) (h11 : arg11.IsWhole)
  (arg12 : Memref sig .tc .vmem S2816x1024 .bf16) (h12 : arg12.IsWhole) (arg13 : Memref sig .tc .vmem S1x512x1024 .f32) (h13 : arg13.IsWhole)
  (arg14 : Memref sig .tc .vmem S512x1024 .bf16) (h14 : arg14.IsWhole) (arg15 : Memref sig .tc .vmem S22x2x528x128 .f32) (h15 : arg15.IsWhole)
  (arg16 : Memref sig .tc .vmem S512x2816 .bf16) (h16 : arg16.IsWhole)

include B in
/-- Every store to the activation's buffer is the activation. -/
theorem act_pieces :
    View.PiecesOf (actG A b i) (kernelRun0_A (F := Ideal) c co arg2 h2 arg3 h3 arg4 h4 arg5 h5 arg6 h6 arg7 h7 arg8 h8 arg9 h9 arg10 h10 arg11 h11 arg12 h12 arg13 h13 arg14 h14 arg15 h15 arg16 h16 x0
      x1 x2 x3 x4 x5 x6 x7 x8 x9 x10).2.2.2.1 := by
  iterate 22
    apply act_cons B h10 h11
    case hw => rfl
    case hL => rfl
    case htp => rfl
    case htc => rfl
    case htn => rfl
    case htb => rfl
    case hup => rfl
    case huc => rfl
    case hun => rfl
    case hub => rfl
    case hH => exact hidV_at B h2 h3 h4 h5 h6 h7 h9 arg14
    case hnum => decide
  · trivial
  all_goals decide

end Cert.Kernel2Ideal.Ffn

end
-- ==== Proof.FfnOut.lean ====
module

public import proofs.«01_k».proof.Proof.FfnBlock

/-! What a grid point of the feed-forward kernel leaves in the output's block: the layer's result at the block's positions. -/

@[expose] public section

set_option maxRecDepth 16384
set_option maxHeartbeats 0

noncomputable section

namespace Cert.Kernel2Ideal.Ffn

open Idealize.ShloMosaic Idealize.ShloMosaic.TcCoe Idealize.ShloMosaic.Tactic Cert.Ffn
open Cert.Kernel2Ideal Cert.Kernel2Ideal.Gen

variable {A : Args} {b : Fin 16} {i : Fin 8} {x0 : Vec Ideal S1x512x1024 .f32} {x1 x2 : Vec Ideal S1x4x512x128 .bf16}
  {x3 : Vec Ideal S1x4x1024 .f32} {x4 x5 x6 : Vec Ideal S1x1024 .f32} {x7 : Vec Ideal S1024x1024 .bf16} {x8 : Vec Ideal S1024x5632 .bf16}
  {x9 : Vec Ideal S8x5632 .f32} {x10 : Vec Ideal S2816x1024 .bf16}

/-! ## Loads of what was stored -/

/-- A load of 256 rows of the activation's buffer. -/
theorem act_load {M : List (View.Piece (Elt Ideal) S512x2816 .bf16)} (hM : ∀ y, View.canon M y = actG A b i y) (v : View sig .tc .vmem S512x2816 .bf16)
    (o : ℕ) (ho : o ≤ 256) (inb : ∀ a, (![o, 0] : Fin 2 → ℕ) a + S256x2816.size a ≤ S512x2816.size a) (r : Fin 256) (f : Fin 2816) :
    v.readCov M (Rect.unit (s := S512x2816) ![o, 0] S256x2816.size inb).toLoadRect (ix2 r f) = act A b (tok i ⟨o + r.val, by omega⟩) f := by
  rw [View.readCov_eq_canon']
  have hy : (Rect.unit (s := S512x2816) ![o, 0] S256x2816.size inb).toLoadRect.idx (ix2 r f) = ix2 ⟨o + r.val, by omega⟩ f :=
    funext fun a => Fin.ext (by
      fin_cases a
      · show o + 1 * r.val = o + r.val; omega
      · exact (Nat.zero_add _).trans (Nat.one_mul _))
  show View.canon _ ((Rect.unit (s := S512x2816) ![o, 0] S256x2816.size inb).toLoadRect.idx (ix2 r f)) = _
  rw [hy, hM]
  rfl

/-- A load of 256 rows of the output's buffer, by what is there. -/
theorem rows_load {M : List (View.Piece (Elt Ideal) S1x512x1024 .f32)} (v : View sig .tc .vmem S1x512x1024 .f32) (o : ℕ) (ho : o ≤ 256)
    (r : Fin 256) (e : Fin 1024) :
    v.readCov M (rows256 o ho).toLoadRect (ix3 0 r e) = View.canon M (ix3 0 ⟨o + r.val, by omega⟩ e) := by
  rw [View.readCov_eq_canon']
  have hy : (rows256 o ho).toLoadRect.idx (ix3 0 r e) = ix3 0 ⟨o + r.val, by omega⟩ e :=
    funext fun a => Fin.ext (by
      fin_cases a
      · rfl
      · show o + 1 * r.val = o + r.val; omega
      · exact (Nat.zero_add _).trans (Nat.one_mul _))
  show View.canon _ ((rows256 o ho).toLoadRect.idx (ix3 0 r e)) = _
  rw [hy]

theorem cast_rows (m : FVec Ideal S256x1024 .f32) (r : Fin 256) (e : Fin 1024) :
    shapeCast S1x256x1024 m shapeCasts_S256x1024_S1x256x1024 (ix3 0 r e) = m (ix2 r e) := by
  pointwise

/-- Four stores of the output's buffer: the stream's rows twice, then the result's rows, each over a load of the former. -/
theorem out_at {inb0 inb0' : ∀ a, (![0, 0, 0] : Fin 3 → ℕ) a + S1x256x1024.size a ≤ S1x512x1024.size a}
    {inb1 inb1' : ∀ a, (![0, 256, 0] : Fin 3 → ℕ) a + S1x256x1024.size a ≤ S1x512x1024.size a}
    {w0 w1 m0 m1 : FVec Ideal S1x256x1024 .f32} {g : FVec Ideal S1x1024 .f32} {a0 a1 : Vec Ideal S256x2816 .bf16} {w : Vec Ideal S2816x1024 .bf16}
    {v : View sig .tc .vmem S1x512x1024 .f32} {M0 M1 : List (View.Piece (Elt Ideal) S1x512x1024 .f32)} {p0 p1 : FVec Ideal S256x1024 .f32}
    (h1 : w1 = outRows g a1 w (v.readCov M1 (rows256 256 (by omega)).toLoadRect)) (h0 : w0 = outRows g a0 w (v.readCov M0 (rows256 0 (by omega)).toLoadRect))
    (hM1 : M1 = [⟨Rect.unit ![0, 0, 0] S1x256x1024.size inb0, w0⟩, ⟨Rect.unit ![0, 256, 0] S1x256x1024.size inb1, m1⟩, ⟨Rect.unit ![0, 0, 0] S1x256x1024.size inb0', m0⟩])
    (hM0 : M0 = [⟨Rect.unit ![0, 256, 0] S1x256x1024.size inb1, m1⟩, ⟨Rect.unit ![0, 0, 0] S1x256x1024.size inb0', m0⟩])
    (hm1 : m1 = shapeCast S1x256x1024 p1 shapeCasts_S256x1024_S1x256x1024) (hm0 : m0 = shapeCast S1x256x1024 p0 shapeCasts_S256x1024_S1x256x1024)
    (hg : ∀ e : Fin 1024, g (ix2 0 e) = A.gout (ix1 e) * md A 5 b e)
    (hw : ∀ (f : Fin 2816) (e : Fin 1024), w (ix2 f e) = A.wd (ix2 f e))
    (ha1 : ∀ (r : Fin 256) (f : Fin 2816), a1 (ix2 r f) = act A b (tok i ⟨256 + r.val, by omega⟩) f)
    (ha0 : ∀ (r : Fin 256) (f : Fin 2816), a0 (ix2 r f) = act A b (tok i ⟨0 + r.val, by omega⟩) f)
    (hp1 : ∀ (r : Fin 256) (e : Fin 1024), p1 (ix2 r e) = mid A b (tok i ⟨256 + r.val, by omega⟩) e)
    (hp0 : ∀ (r : Fin 256) (e : Fin 1024), p0 (ix2 r e) = mid A b (tok i ⟨0 + r.val, by omega⟩) e)
    (r : Fin 512) (e : Fin 1024) :
    View.canon (⟨Rect.unit (s := S1x512x1024) ![0, 256, 0] S1x256x1024.size inb1', w1⟩ :: M1) (ix3 0 r e) = out A b (tok i r) e := by
  have low : ∀ (r : Fin 256) (e : Fin 1024), w0 (ix3 0 r e) = out A b (tok i ⟨0 + r.val, by omega⟩) e := fun r e => by
    rw [h0]
    refine outRows_at _ _ _ _ A b (fun r => tok i ⟨0 + r.val, by omega⟩) hg ha0 hw (fun r e => ?_) r e
    rw [rows_load, hM0, canon_miss _ _ _ _ ⟨1, Or.inl (show 0 + r.val < 256 by omega)⟩,
      canon_hit _ _ _ _ (ix3 0 r e) fun a => by fin_cases a <;> first | rfl | exact (Nat.zero_add _).symm]
    rw [hm0]
    exact (cast_rows _ _ _).trans (hp0 r e)
  have high : ∀ (r : Fin 256) (e : Fin 1024), w1 (ix3 0 r e) = out A b (tok i ⟨256 + r.val, by omega⟩) e := fun r e => by
    rw [h1]
    refine outRows_at _ _ _ _ A b (fun r => tok i ⟨256 + r.val, by omega⟩) hg ha1 hw (fun r e => ?_) r e
    rw [rows_load, hM1, canon_miss _ _ _ _ ⟨1, Or.inr (show 0 + 256 ≤ 256 + r.val by omega)⟩,
      canon_hit _ _ _ _ (ix3 0 r e) fun a => by fin_cases a <;> first | rfl | exact (Nat.zero_add _).symm]
    rw [hm1]
    exact (cast_rows _ _ _).trans (hp1 r e)
  by_cases h : r.val < 256
  · rw [canon_miss _ _ _ _ ⟨1, Or.inl h⟩, hM1,
      canon_hit _ _ _ _ (ix3 0 ⟨r.val, h⟩ e) fun a => by fin_cases a <;> first | rfl | exact (Nat.zero_add _).symm]
    exact (low _ _).trans (congrArg (fun r => out A b (tok i r) e) (Fin.ext (Nat.zero_add _)))
  · rw [canon_hit _ _ _ _ (ix3 0 ⟨r.val - 256, by omega⟩ e) fun a => by
      fin_cases a
      · rfl
      · show r.val = 256 + (r.val - 256); omega
      · exact (Nat.zero_add _).symm]
    exact (high _ _).trans (congrArg (fun r => out A b (tok i r) e) (Fin.ext (show 256 + (r.val - 256) = r.val by omega)))

/- Kept folded, so that a template and a stored value are compared operation by operation. -/
attribute [local irreducible] Idealize.ShloMosaic.shapeCast Idealize.ShloMosaic.broadcastTo Idealize.ShloMosaic.extractStridedSlice Idealize.ShloMosaic.mulf
  Idealize.ShloMosaic.addf Idealize.ShloMosaic.subf Idealize.ShloMosaic.divf Idealize.ShloMosaic.exp Idealize.ShloMosaic.truncf Idealize.ShloMosaic.concatenate
  Idealize.ShloMosaic.broadcast k0_pay22 k0_pay23 View.readCov View.readAt

variable (B : Blk A b i x0 x1 x2 x3 x4 x5 x6 x7 x8 x9 x10)
variable (c : Dev nD) (co : grid0.Coords) (arg2 : Memref sig .tc .vmem S1x512x1024 .f32) (h2 : arg2.IsWhole) (arg3 : Memref sig .tc .vmem S1x4x512x128 .bf16)
  (h3 : arg3.IsWhole) (arg4 : Memref sig .tc .vmem S1x4x512x128 .bf16) (h4 : arg4.IsWhole) (arg5 : Memref sig .tc .vmem S1x4x1024 .f32)
  (h5 : arg5.IsWhole) (arg6 : Memref sig .tc .vmem S1x1024 .f32) (h6 : arg6.IsWhole) (arg7 : Memref sig .tc .vmem S1x1024 .f32) (h7 : arg7.IsWhole)
  (arg8 : Memref sig .tc .vmem S1x1024 .f32) (h8 : arg8.IsWhole) (arg9 : Memref sig .tc .vmem S1024x1024 .bf16) (h9 : arg9.IsWhole)
  (arg10 : Memref sig .tc .vmem S1024x5632 .bf16) (h10 : arg10.IsWhole) (arg11 : Memref sig .tc .vmem S8x5632 .f32) (h11 : arg11.IsWhole)
  (arg12 : Memref sig .tc .vmem S2816x1024 .bf16) (h12 : arg12.IsWhole) (arg13 : Memref sig .tc .vmem S1x512x1024 .f32) (h13 : arg13.IsWhole)
  (arg14 : Memref sig .tc .vmem S512x1024 .bf16) (h14 : arg14.IsWhole) (arg15 : Memref sig .tc .vmem S22x2x528x128 .f32) (h15 : arg15.IsWhole)
  (arg16 : Memref sig .tc .vmem S512x2816 .bf16) (h16 : arg16.IsWhole)

include B in
/-- The activation's buffer after all its stores. -/
theorem act_buf (y : S512x2816.Idx) : View.canon (kernelRun0_A (F := Ideal) c co arg2 h2 arg3 h3 arg4 h4 arg5 h5 arg6 h6 arg7 h7 arg8 h8 arg9 h9 arg10 h10 arg11 h11 arg12 h12 arg13 h13 arg14 h14 arg15 h15 arg16 h16 x0
      x1 x2 x3 x4 x5 x6 x7 x8 x9 x10).2.2.2.1 y = actG A b i y :=
  View.canon_apply_of_pieces (actG A b i) _ (act_pieces B c co arg2 h2 arg3 h3 arg4 h4 arg5 h5 arg6 h6 arg7 h7 arg8 h8 arg9 h9 arg10 h10 arg11 h11 arg12 h12 arg13 h13 arg14 h14 arg15 h15 arg16 h16).mem y
    (View.cover_of_tiledL (kernelRun0_A (F := Ideal) c co arg2 h2 arg3 h3 arg4 h4 arg5 h5 arg6 h6 arg7 h7 arg8 h8 arg9 h9 arg10 h10 arg11 h11 arg12 h12 arg13 h13 arg14 h14 arg15 h15 arg16 h16 x0
      x1 x2 x3 x4 x5 x6 x7 x8 x9 x10).2.2.2.1 S512x128.size (by sl_kernel_rfl) y)

include B in
/-- The output's block. -/
theorem out_block (r : Fin 512) (e : Fin 1024) : out0_A_11 (F := Ideal) c co arg2 h2 arg3 h3 arg4 h4 arg5 h5 arg6 h6 arg7 h7 arg8 h8 arg9 h9 arg10 h10 arg11 h11 arg12 h12 arg13 h13 arg14 h14 arg15 h15 arg16 h16
      x0 x1 x2 x3 x4 x5 x6 x7 x8 x9 x10 (ix3 0 r e) = out A b (tok i r) e := by
  unfold out0_A_11
  rw [View.read_writes_junk_eq_canon]
  apply out_at (p1 := midO h2 h3 h4 h5 h6 h9 x0 x1 x2 x3 x4 x7 256 (by omega)) (p0 := midO h2 h3 h4 h5 h6 h9 x0 x1 x2 x3 x4 x7 0 (by omega))
  case h1 => rfl
  case h0 => rfl
  case hM1 => rfl
  case hM0 => rfl
  case hm1 => rfl
  case hm0 => rfl
  case hg => exact gainOut B h5 h8
  case hw => exact fun f e => (load_at h12 x10 _ _ (ix2 f e) fun a => by fin_cases a <;> exact (Nat.zero_add _).symm).trans (B.wd f e)
  case ha1 => exact act_load (act_buf B c co arg2 h2 arg3 h3 arg4 h4 arg5 h5 arg6 h6 arg7 h7 arg8 h8 arg9 h9 arg10 h10 arg11 h11 arg12 h12 arg13 h13 arg14 h14 arg15 h15 arg16 h16) _ 256 (by omega) _
  case ha0 => exact act_load (act_buf B c co arg2 h2 arg3 h3 arg4 h4 arg5 h5 arg6 h6 arg7 h7 arg8 h8 arg9 h9 arg10 h10 arg11 h11 arg12 h12 arg13 h13 arg14 h14 arg15 h15 arg16 h16) _ 0 (by omega) _
  case hp1 => exact midO_at B h2 h3 h4 h5 h6 h9 256 (by omega)
  case hp0 => exact midO_at B h2 h3 h4 h5 h6 h9 0 (by omega)

end Cert.Kernel2Ideal.Ffn

end
-- ==== Proof.FfnArray.lean ====
module

public import proofs.«01_k».proof.Proof.FfnOut
public import proofs.«01_k».proof.Proof.Gen.Kernel2Ideal.Value
public import Idealize.ShloMosaic.Lib.Pipeline.ValueKit
public import Idealize.ShloMosaic.Lib.StableHlo.RunRead

/-! The array in closed form: at the end of the feed-forward kernel's run its result is the layer's, of the arguments. -/

@[expose] public section

set_option maxRecDepth 16384

noncomputable section

namespace Cert.Kernel2Ideal.Ffn

open Idealize.ShloMosaic Idealize.ShloMosaic.TcCoe Idealize.ShloMosaic.Tactic Idealize.ShloMosaic.StableHlo Cert.Ffn
open Idealize.SL.Sem
open Cert.Kernel2Ideal Cert.Kernel2Ideal.Gen

variable (m : (ℓ : Loc nD τ sig) → Buf (Elt Ideal) ℓ) (ρ : Dev nD → PrngReg)

/-- The arguments at the launch. -/
abbrev launched (c : Dev nD) : Args where
  x := m ((c.tc : Thread nD τ).loc main_arg0)
  ret := m ((c.tc : Thread nD τ).loc main_arg1)
  four := m ((c.tc : Thread nD τ).loc main_arg2)
  md := m ((c.tc : Thread nD τ).loc main_arg3)
  gpost := m ((c.tc : Thread nD τ).loc main_arg4)
  gpre := m ((c.tc : Thread nD τ).loc main_arg5)
  gout := m ((c.tc : Thread nD τ).loc main_arg6)
  wo := m ((c.tc : Thread nD τ).loc main_arg7)
  wu := m ((c.tc : Thread nD τ).loc main_arg8)
  cw := m ((c.tc : Thread nD τ).loc main_arg9)
  cb := m ((c.tc : Thread nD τ).loc main_arg10)
  wd := m ((c.tc : Thread nD τ).loc main_arg11)

/-- The batch element and the block of a grid point. -/
abbrev bat (t : Fin cfg0.N) : Fin 16 := ⟨(grid0.coords t 0).val, (grid0.coords t 0).isLt⟩
abbrev pos (t : Fin cfg0.N) : Fin 8 := ⟨(grid0.coords t 1).val, (grid0.coords t 1).isLt⟩

theorem index0 : ∀ t : Fin cfg0.N, win0_0.index t = ![(grid0.coords t 0).val, (grid0.coords t 1).val, 0] := (by decide +kernel : ∀ t : Fin grid0.N, _)
theorem index1 : ∀ t : Fin cfg0.N, win0_1.index t = ![(grid0.coords t 0).val, 0, (grid0.coords t 1).val, 0] := (by decide +kernel : ∀ t : Fin grid0.N, _)
theorem index2 : ∀ t : Fin cfg0.N, win0_2.index t = ![(grid0.coords t 0).val, 0, (grid0.coords t 1).val, 0] := (by decide +kernel : ∀ t : Fin grid0.N, _)
theorem index3 : ∀ t : Fin cfg0.N, win0_3.index t = ![(grid0.coords t 0).val, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![(grid0.coords t 0).val, (grid0.coords t 1).val, 0] := (by decide +kernel : ∀ t : Fin grid0.N, _)

/-! ## What the host prepares -/

theorem V_v4 (c : Dev nD) (b : Fin 16) (k : Fin 4) (e : Fin 1024) : V m c main_v4 (ix3 b k e) = (launched m c).md (ix2 b ⟨(k.val + 2) * 1024 + e.val, by omega⟩) := by
  unfold V hostOps0
  after_reads_simp
  pointwise
  exact congrArg (fun j => (launched m c).md (ix2 b j)) (Fin.ext (show (2 + k.val) * 1024 + e.val = (k.val + 2) * 1024 + e.val by omega))

theorem V_v5 (c : Dev nD) (e : Fin 1024) : V m c main_v5 (ix2 0 e) = (launched m c).gpost (ix1 e) := by
  unfold V hostOps0
  after_reads_simp
  pointwise

theorem V_v6 (c : Dev nD) (e : Fin 1024) : V m c main_v6 (ix2 0 e) = (launched m c).gpre (ix1 e) := by
  unfold V hostOps0
  after_reads_simp
  pointwise

theorem V_v7 (c : Dev nD) (e : Fin 1024) : V m c main_v7 (ix2 0 e) = (launched m c).gout (ix1 e) := by
  unfold V hostOps0
  after_reads_simp
  pointwise

theorem V_v8 (c : Dev nD) (d e : Fin 1024) : V m c main_v8 (ix2 d e) = (launched m c).wo (ix2 d e) := by
  unfold V hostOps0
  after_reads_simp
  pointwise

theorem V_v9 (c : Dev nD) (e : Fin 1024) (n : Fin 5632) : V m c main_v9 (ix2 e n) = (launched m c).wu (ix2 e n) := by
  unfold V hostOps0
  after_reads_simp
  pointwise

theorem V_v10 (c : Dev nD) (f : Fin 2816) (e : Fin 1024) : V m c main_v10 (ix2 f e) = (launched m c).wd (ix2 f e) := by
  unfold V hostOps0
  after_reads_simp
  pointwise

theorem V_taps (c : Dev nD) (k : Fin 3) (n : Fin 5632) : V m c main_v3 (ix2 ⟨k.val, by omega⟩ n) = (launched m c).cw (ix2 k n) := by
  unfold V hostOps0
  after_reads_simp
  fin_cases k <;> pointwise

theorem V_bias (c : Dev nD) (n : Fin 5632) : V m c main_v3 (ix2 3 n) = (launched m c).cb (ix1 n) := by
  unfold V hostOps0
  after_reads_simp
  pointwise
  rw [unary_result']
  after_reads_simp
  pointwise

/-! ## The blocks -/

theorem blk0 (c : Dev nD) (t : Fin cfg0.N) (r : Fin 512) (e : Fin 1024) : iblk m c 0 t (ix3 0 r e) = V m c main_arg0 (ix3 (bat t) (tok (pos t) r) e) := by
  blk_simp [iblk]
  congr 1
  blk_ext [index0]

theorem blk1 (c : Dev nD) (t : Fin cfg0.N) (h : Fin 4) (r : Fin 512) (d : Fin 128) : iblk m c 1 t (ix4 0 h r d) = V m c main_arg1 (ix4 (bat t) h (tok (pos t) r) d) := by
  blk_simp [iblk]
  congr 1
  blk_ext [index1]

theorem blk2 (c : Dev nD) (t : Fin cfg0.N) (h : Fin 4) (r : Fin 512) (d : Fin 128) : iblk m c 2 t (ix4 0 h r d) = V m c main_arg2 (ix4 (bat t) h (tok (pos t) r) d) := by
  blk_simp [iblk]
  congr 1
  blk_ext [index2]

theorem blk3 (c : Dev nD) (t : Fin cfg0.N) (k : Fin 4) (e : Fin 1024) : iblk m c 3 t (ix3 0 k e) = V m c main_v4 (ix3 (bat t) k e) := by
  blk_simp [iblk]
  congr 1
  blk_ext [index3]

theorem blk4 (c : Dev nD) (t : Fin cfg0.N) (e : Fin 1024) : iblk m c 4 t (ix2 0 e) = V m c main_v5 (ix2 0 e) := by
  blk_simp [iblk]
  congr 1
  blk_ext [index4]

theorem blk5 (c : Dev nD) (t : Fin cfg0.N) (e : Fin 1024) : iblk m c 5 t (ix2 0 e) = V m c main_v6 (ix2 0 e) := by
  blk_simp [iblk]
  congr 1
  blk_ext [index5]

theorem blk6 (c : Dev nD) (t : Fin cfg0.N) (e : Fin 1024) : iblk m c 6 t (ix2 0 e) = V m c main_v7 (ix2 0 e) := by
  blk_simp [iblk]
  congr 1
  blk_ext [index6]

theorem blk7 (c : Dev nD) (t : Fin cfg0.N) (d e : Fin 1024) : iblk m c 7 t (ix2 d e) = V m c main_v8 (ix2 d e) := by
  blk_simp [iblk]
  congr 1
  blk_ext [index7]

theorem blk8 (c : Dev nD) (t : Fin cfg0.N) (e : Fin 1024) (n : Fin 5632) : iblk m c 8 t (ix2 e n) = V m c main_v9 (ix2 e n) := by
  blk_simp [iblk]
  congr 1
  blk_ext [index8]

theorem blk9 (c : Dev nD) (t : Fin cfg0.N) (k : Fin 8) (n : Fin 5632) : iblk m c 9 t (ix2 k n) = V m c main_v3 (ix2 k n) := by
  blk_simp [iblk]
  congr 1
  blk_ext [index9]

theorem blk10 (c : Dev nD) (t : Fin cfg0.N) (f : Fin 2816) (e : Fin 1024) : iblk m c 10 t (ix2 f e) = V m c main_v10 (ix2 f e) := by
  blk_simp [iblk]
  congr 1
  blk_ext [index10]

/-- A grid point's blocks are the arguments'. -/
theorem blocks (c : Dev nD) (t : Fin cfg0.N) :
    Blk (launched m c) (bat t) (pos t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) where
  x r e := (blk0 m c t r e).trans (congrFun (V_main_arg0 m c) _)
  ret h r d := (blk1 m c t h r d).trans (congrFun (V_main_arg1 m c) _)
  four h r d := (blk2 m c t h r d).trans (congrFun (V_main_arg2 m c) _)
  md k e := (blk3 m c t k e).trans (V_v4 m c _ k e)
  gpost e := (blk4 m c t e).trans (V_v5 m c e)
  gpre e := (blk5 m c t e).trans (V_v6 m c e)
  gout e := (blk6 m c t e).trans (V_v7 m c e)
  wo d e := (blk7 m c t d e).trans (V_v8 m c d e)
  wu e n := (blk8 m c t e n).trans (V_v9 m c e n)
  cw k n := (blk9 m c t _ n).trans (V_taps m c k n)
  cb n := (blk9 m c t 3 n).trans (V_bias m c n)
  wd f e := (blk10 m c t f e).trans (V_v10 m c f e)

/-- The layer's result of the arguments, as an array. -/
def resultArr (c : Dev nD) : TOKS.Idx → EReal := fun j => out (launched m c) (j 0) (j 1) (j 2)

/-- The result array at the run's end. -/
theorem final_v11 (c : Dev nD) : (dats m 0 c).arrAt 11 cfg0.N = resultArr m c := by
  refine (dats m 0 c).arrAt_eq_of_covers 11 _ (by decide +kernel) fun t hf y => ?_
  blk_simp
  rw [after0_11]
  change S1x512x1024.Idx at y
  obtain ⟨r, e, rfl⟩ : ∃ (r : Fin 512) (e : Fin 1024), y = ix3 0 r e := by
    idx_vars y
    exact ⟨_, _, by congr 1; exact Subsingleton.elim _ _⟩
  unfold outsAt0
  refine (out_block (blocks m c t) c _ _ _ _ _ _ _ _ _ _ _ _ _ _ _ _ _ _ _ _ _ _ _ _ _ _ _ _ _ _ _ r e).trans ?_
  have e0 : (win0_11.blk t).view.emb (ix3 0 r e) = (ix3 (bat t) (tok (pos t) r) e : TOKS.Idx) := by blk_ext [index11]
  rw [e0]
  rfl

end Cert.Kernel2Ideal.Ffn

end
-- ==== Proof.FfnRef.lean ====
module

public import proofs.«01_k».proof.Proof.FfnSpec
public import proofs.«01_k».proof.Proof.Gen.Reference2Ideal.Run
public import Idealize.ShloMosaic.Lib.StableHlo.RunRead

/-! The second reference's value: each named array at one position, and the result. -/

@[expose] public section

set_option maxRecDepth 16384

noncomputable section

namespace Cert.Reference2Ideal.Ffn

open Idealize.ShloMosaic Idealize.ShloMosaic.TcCoe Idealize.ShloMosaic.StableHlo Idealize.SL.Sem Idealize.ShloMosaic.Tactic
open Cert.Reference2Ideal Cert.Reference2Ideal.Gen Cert.Reference2Ideal.Value Cert.Ffn

variable (V : Valuation τ sig (Elt Ideal))

/-- The arguments as the program holds them. -/
abbrev args : Args where
  x := V (Proc.devRef .tc main_arg0)
  ret := V (Proc.devRef .tc main_arg1)
  four := V (Proc.devRef .tc main_arg2)
  md := V (Proc.devRef .tc main_arg3)
  gpost := V (Proc.devRef .tc main_arg4)
  gpre := V (Proc.devRef .tc main_arg5)
  gout := V (Proc.devRef .tc main_arg6)
  wo := V (Proc.devRef .tc main_arg7)
  wu := V (Proc.devRef .tc main_arg8)
  cw := V (Proc.devRef .tc main_arg9)
  cb := V (Proc.devRef .tc main_arg10)
  wd := V (Proc.devRef .tc main_arg11)

theorem mix_at (b : Fin 16) (t : Fin 4096) (e : Fin 1024) : res_main_v19 V (ix3 b t e) = mix (args V) b t e := by
  unfold res_main_v19 mix cat
  pointwise

theorem mid_at (b : Fin 16) (t : Fin 4096) (e : Fin 1024) : res_main_v35 V (ix3 b t e) = mid (args V) b t e := by
  unfold res_main_v35
  pointwise
  simp only [mix_at]
  unfold mid rs md
  have h : ∀ m p q g : EReal, m * (p * q * g) = p * q * (g * m) := fun m p q g => by rw [mul_comm m, mul_assoc]
  exact congrArg (fun y : EReal => (args V).x (ix3 b t e) + y) (h _ _ _ _)

theorem up_at (b : Fin 16) (r : Fin 64) (w : Fin 66) (n : Fin 5632) : res_main_v57 V (ix4 b r w n) =
    if h : 1 ≤ w.val ∧ w.val - 1 < 64 then up (args V) b ⟨r.val * 64 + (w.val - 1), by omega⟩ n else 0 := by
  unfold res_main_v57
  pointwise
  simp only [mid_at]
  unfold up hid rs md
  by_cases hw : 1 ≤ w.val ∧ w.val - 1 < 64
  · rw [dif_pos hw, dif_pos hw]
    exact Finset.sum_congr (M := EReal) rfl fun e _ => congrArg (fun y : EReal => y * (args V).wu (ix2 e n))
      (congrArg (fun y : EReal => y + md (args V) 3 b e) (mul_assoc _ _ _))
  · rw [dif_neg hw, dif_neg hw]
    show (((0#32 : BitVec 32).toInt : ℝ) : EReal) = 0
    norm_num

theorem conv_at (b : Fin 16) (t : Fin 4096) (n : Fin 5632) : res_main_v81 V (ix3 b t n) = conv (args V) b t n := by
  unfold res_main_v81
  pointwise
  simp only [up_at]
  unfold conv
  have ht : t.val / 64 * 64 + t.val % 64 = t.val := by omega
  refine congrArg (· + _) (congrArg₂ (· + ·) (congrArg₂ (· + ·) (congrArg (· * _) ?_) (congrArg (· * _) ?_)) (congrArg (· * _) ?_))
  · by_cases h : t.val % 64 = 0
    · rw [dif_neg (by omega), dif_pos h]
    · rw [dif_pos (by omega), dif_neg h]
      exact congrArg (fun t => up (args V) b t n) (Fin.ext (show t.val / 64 * 64 + (t.val % 64 - 1) = t.val - 1 by omega))
  · rw [dif_pos (by omega)]
    exact congrArg (fun t => up (args V) b t n) (Fin.ext (show t.val / 64 * 64 + (1 + t.val % 64 - 1) = t.val by omega))
  · by_cases h : t.val % 64 = 63
    · rw [dif_neg (by omega), dif_pos h]
    · rw [dif_pos (by omega), dif_neg h]
      exact congrArg (fun t => up (args V) b t n) (Fin.ext (show t.val / 64 * 64 + (2 + t.val % 64 - 1) = t.val + 1 by omega))

theorem down_at (X : FVec Ideal S16x4096x2816 .f32) (W : FVec Ideal S2816x1024 .bf16) (b : Fin 16) (t : Fin 4096) (e : Fin 1024) :
    Host.dotGeneral (F := Ideal) dot_S16x4096x2816_S2816x1024_S16x4096x1024_2_0_01_1_n_n none X W (ix3 b t e) = ∑ f : Fin 2816, X (ix3 b t f) * W (ix2 f e) := by
  pointwise

theorem first_at (b : Fin 16) (t : Fin 4096) (f : Fin 2816) : res_main_v82 V (ix3 b t f) = conv (args V) b t ⟨f.val, by omega⟩ := by
  unfold res_main_v82
  pointwise
  exact conv_at V b t _

theorem second_at (b : Fin 16) (t : Fin 4096) (f : Fin 2816) :
    extractStridedSlice S16x4096x2816 ![0, 0, 2816] (res_main_v81 V) slices_S16x4096x5632_S16x4096x2816_0_0_2816 (ix3 b t f) = conv (args V) b t ⟨2816 + f.val, by omega⟩ := by
  pointwise
  exact conv_at V b t _

theorem one_add_exp_ne (x : EReal) : 1 + Ideal.exp (-x) ≠ 0 := by
  have h : 0 ≤ Ideal.exp (-x) := by
    induction -x using EReal.rec with
    | bot => exact le_refl _
    | top => exact le_top
    | coe r => exact EReal.coe_nonneg.mpr (Real.exp_nonneg r)
  exact (lt_of_lt_of_le one_pos (le_add_of_nonneg_right h)).ne'

/-- The gated activation, of the convolution's two halves. -/
theorem gate_at (X Y : FVec Ideal S16x4096x2816 .f32) (j : S16x4096x2816.Idx) :
    mulf (mulf X (Host.divf (broadcastInDim S16x4096x2816 ![] bcast_S_S16x4096x2816 (constant (F := Ideal) S_ .f32 0x3F800000#32))
      (addf (broadcastInDim S16x4096x2816 ![] bcast_S_S16x4096x2816 (constant (F := Ideal) S_ .f32 0x3F800000#32)) (Host.exp (Host.negf X))))) Y j
      = silu (X j) * Y j := by
  show X j * Ideal.div (Ideal.ofBits .f32 0x3F800000#32) (Ideal.ofBits .f32 0x3F800000#32 + Ideal.exp (-X j)) * Y j = _
  rw [Ideal.ofBits_one_f32, Ideal.mul_one_div (one_add_exp_ne _)]
  rfl

theorem ffn_at (b : Fin 16) (t : Fin 4096) (e : Fin 1024) : res_main_v86 V (ix3 b t e) = ffn (args V) b t e := by
  unfold res_main_v86
  refine (down_at _ _ b t e).trans (Finset.sum_congr (M := EReal) rfl fun f _ => congrArg (fun y : EReal => y * (args V).wd (ix2 f e)) ?_)
  refine (gate_at (res_main_v82 V) _ (ix3 b t f)).trans ?_
  rw [second_at, first_at]
  rfl

/-- The last residual step. -/
theorem last_at (X Y : FVec Ideal S16x4096x1024 .f32) (M : FVec Ideal S16x6144 .f32) (G : FVec Ideal S1024 .f32) (b : Fin 16) (t : Fin 4096) (e : Fin 1024) :
    addf X (mulf (broadcastInDim S16x4096x1024 ![0, 1, 2] bcast_S16x1x1024_S16x4096x1024_0_1_2 (broadcastInDim S16x1x1024 ![0, 2] bcast_S16x1024_S16x1x1024_0_2 (extractStridedSlice S16x1024 ![0, 5120] M slices_S16x6144_S16x1024_0_5120))) (mulf (mulf Y (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf Y Y) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 G)))) (ix3 b t e)
      = X (ix3 b t e) + Y (ix3 b t e) * rs (fun e => Y (ix3 b t e)) * (G (ix1 e) * M (ix2 b ⟨5 * 1024 + e.val, by omega⟩)) := by
  pointwise
  unfold rs
  have h : ∀ m p q g : EReal, m * (p * q * g) = p * q * (g * m) := fun m p q g => by rw [mul_comm m, mul_assoc]
  exact congrArg (fun y : EReal => X (ix3 b t e) + y) (h _ _ _ _)

end Cert.Reference2Ideal.Ffn

end
-- ==== Proof.FfnResult.lean ====
module

public import proofs.«01_k».proof.Proof.FfnRef
public import Idealize.ShloMosaic.Lib.Quiescent

/-! The second reference's run: its frame, and its result in closed form. -/

@[expose] public section

set_option maxRecDepth 16384

noncomputable section

namespace Cert.Reference2Ideal.Ffn

open Idealize.ShloMosaic Idealize.ShloMosaic.TcCoe Idealize.ShloMosaic.StableHlo Idealize.SL.Sem Idealize.ShloMosaic.Tactic
open Cert.Reference2Ideal Cert.Reference2Ideal.Gen Cert.Reference2Ideal.Value Cert.Ffn

variable (m : (ℓ : Loc nD τ sig) → Buf (Elt Ideal) ℓ) (ρ : Dev nD → PrngReg)

/-- The last residual step's terms in closed form. -/
theorem value_at (A : Args) (b : Fin 16) (t : Fin 4096) (e : Fin 1024) (X : EReal) (Y : Fin 1024 → EReal) (hX : X = mid A b t e) (hY : ∀ e, Y e = ffn A b t e) :
    X + Y e * rs Y * (A.gout (ix1 e) * A.md (ix2 b ⟨5 * 1024 + e.val, by omega⟩)) = out A b t e := by
  rw [hX, funext hY]
  rfl

/-- The layer's result of the arguments, as an array. -/
def refArr (c : Dev nD) : TOKS.Idx → EReal := fun j => out (args (launchContents m c)) (j 0) (j 1) (j 2)

/-- The reference runs, leaves its arguments, and ends with every semaphore at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => (h c).2, sem_eq_zero_of_no_sems rfl r.2⟩) (run m ρ)

/-- The reference's run ends with the layer's result and the arguments as they were. -/
theorem run_value : θ_run (defs (F := Ideal)) (onTc (τ := τ) (main (F := Ideal))) ⟨m, fun _ => 0, ρ⟩ (fun r => ∀ c : Dev nD,
      r.2.mem ((c.tc : Thread nD τ).loc main_v102) = refArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (funext fun j => by
      rw [eq_ix3 j]
      exact (last_at _ _ _ _ _ _ _).trans (value_at (args (launchContents m c)) (j 0) (j 1) (j 2) _
        (fun e => res_main_v86 (launchContents m c) (ix3 (j 0) (j 1) e)) (mid_at _ _ _ _) fun e => ffn_at _ _ _ e)), (h c).2⟩) (run m ρ)

end Cert.Reference2Ideal.Ffn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.ArrayValue
public import proofs.«01_k».proof.Proof.RefResult
public import proofs.«01_k».proof.Proof.Finite
public import proofs.«01_k».proof.Proof.Gen.Kernel2
public import proofs.«01_k».proof.Proof.FfnArray
public import proofs.«01_k».proof.Proof.FfnResult
public import Idealize.ShloMosaic.Adequacy
public import Idealize.ShloMosaic.Init

@[expose] public section

set_option maxRecDepth 16384

noncomputable section

namespace Cert.Proof

open Idealize.ShloMosaic Idealize.SL.Sem

/-- The idealized kernel's frame. -/
theorem frame_kernelIdeal : Cert.quiescent_KernelIdeal := fun m ρ _ => Cert.KernelIdeal.Ret.frame m ρ

/-- The two programs' kernels are one body table, -/
theorem rows_eq : Cert.Kernel.defs₀ (F := Bits) = Cert.KernelIdeal.defs₀ (F := Bits) := by
  refine congrArg Defs.onTc (funext fun l => ?_)
  match l with
  | ⟨0, _⟩ => exact funext fun a => rfl
  | ⟨_ + 1, h⟩ => exact absurd h (Nat.not_lt.2 (Nat.le_add_left _ _))

/-- and with the pipelines one table. -/
theorem defs_eq : Cert.Kernel.defs (F := Bits) = Cert.KernelIdeal.defs (F := Bits) :=
  congrArg (Pipeline.defs (Cert.KernelIdeal.pcfgs (F := Bits))) rows_eq

/-- The kernel's frame, from the same run read at the machine's float values. -/
theorem frame_kernel : Cert.quiescent_Kernel := fun m ρ _ => by
  rw [defs_eq]
  exact (θ_run Cert.KernelIdeal.defs _ _).mono (fun _ h => h) (Cert.KernelIdeal.Ret.frame (F := Bits) m ρ)

/-- The reference's frame. -/
theorem frame_reference : Cert.quiescent_ReferenceIdeal := fun m ρ _ => Cert.ReferenceIdeal.Ret.frame m ρ

/-- From one memory's arguments the reference's result is the kernel's. -/
theorem arr_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Ret.aq (Cert.ReferenceIdeal.Ret.start m' c) = Cert.KernelIdeal.Ret.arg m c Cert.KernelIdeal.main_arg0)
    (h1 : Cert.ReferenceIdeal.Ret.ak (Cert.ReferenceIdeal.Ret.start m' c) = Cert.KernelIdeal.Ret.arg m c Cert.KernelIdeal.main_arg1)
    (h2 : Cert.ReferenceIdeal.Ret.av (Cert.ReferenceIdeal.Ret.start m' c) = Cert.KernelIdeal.Ret.arg m c Cert.KernelIdeal.main_arg2)
    (h3 : Cert.ReferenceIdeal.Ret.ag (Cert.ReferenceIdeal.Ret.start m' c) = Cert.KernelIdeal.Ret.arg m c Cert.KernelIdeal.main_arg3)
    (h4 : Cert.ReferenceIdeal.Ret.asf (Cert.ReferenceIdeal.Ret.start m' c) = Cert.KernelIdeal.Ret.arg m c Cert.KernelIdeal.main_arg4)
    (h5 : Cert.ReferenceIdeal.Ret.asb (Cert.ReferenceIdeal.Ret.start m' c) = Cert.KernelIdeal.Ret.arg m c Cert.KernelIdeal.main_arg5)
    (h6 : Cert.ReferenceIdeal.Ret.adf (Cert.ReferenceIdeal.Ret.start m' c) = Cert.KernelIdeal.Ret.arg m c Cert.KernelIdeal.main_arg6)
    (h7 : Cert.ReferenceIdeal.Ret.adb (Cert.ReferenceIdeal.Ret.start m' c) = Cert.KernelIdeal.Ret.arg m c Cert.KernelIdeal.main_arg7) :
    Cert.ReferenceIdeal.Ret.refArr m' c = Cert.KernelIdeal.Ret.resultArr m c := by
  unfold Cert.ReferenceIdeal.Ret.refArr Cert.KernelIdeal.Ret.resultArr
  rw [h0, h1, h2, h3, h4, h5, h6, h7]

/-- With real queries, keys and values the kernel's result is the reference's. -/
theorem value [hPre_finite : Cert.Pre_finite.Facts] : Cert.algebraic_KernelIdeal_ReferenceIdeal_pre_finite := fun m ρ m' ρ' hp ha => by
  have hr := fun c => Cert.Pre_finite.reals _ _ _ _ _ _ _ _ (hp c)
  have e : ∀ c, Cert.ReferenceIdeal.Ret.refArr m' c = Cert.KernelIdeal.Ret.resultArr m c := fun c =>
    arr_eq m m' c (ha c).1 (ha c).2.1 (ha c).2.2.1 (ha c).2.2.2.1 (ha c).2.2.2.2.1 (ha c).2.2.2.2.2.1 (ha c).2.2.2.2.2.2.1 (ha c).2.2.2.2.2.2.2
  refine ⟨Cert.KernelIdeal.Ret.resultArr m, Cert.KernelIdeal.Ret.run_value m ρ (fun c => (hr c).1) (fun c => (hr c).2.1) (fun c => (hr c).2.2), ?_⟩
  have run := Cert.ReferenceIdeal.Ret.run_value m' ρ'
    (fun c => show Cert.Retention.IsReal (m' ((c.tc : Thread Cert.ReferenceIdeal.nD Cert.ReferenceIdeal.τ).loc Cert.ReferenceIdeal.main_arg0)) from (ha c).1 ▸ (hr c).1)
    (fun c => show Cert.Retention.IsReal (m' ((c.tc : Thread Cert.ReferenceIdeal.nD Cert.ReferenceIdeal.τ).loc Cert.ReferenceIdeal.main_arg1)) from (ha c).2.1 ▸ (hr c).2.1)
    (fun c => show Cert.Retention.IsReal (m' ((c.tc : Thread Cert.ReferenceIdeal.nD Cert.ReferenceIdeal.τ).loc Cert.ReferenceIdeal.main_arg2)) from (ha c).2.2.1 ▸ (hr c).2.2)
  exact (θ_run Cert.ReferenceIdeal.defs _ _).mono (fun r h c => ⟨(h c).1.trans (e c), (h c).2⟩) run

/-- The second kernel's frame over the extended reals. -/
theorem frame_kernel2Ideal : Cert.quiescent_Kernel2Ideal := fun m ρ _ => Cert.Kernel2Ideal.Gen.frame m ρ

theorem rows2_eq : Cert.Kernel2.defs₀ (F := Bits) = Cert.Kernel2Ideal.defs₀ (F := Bits) := by
  refine congrArg Defs.onTc (funext fun l => ?_)
  match l with
  | ⟨0, _⟩ => exact funext fun a => rfl
  | ⟨_ + 1, h⟩ => exact absurd h (Nat.not_lt.2 (Nat.le_add_left _ _))

theorem defs2_eq : Cert.Kernel2.defs (F := Bits) = Cert.Kernel2Ideal.defs (F := Bits) :=
  congrArg (Pipeline.defs (Cert.Kernel2Ideal.pcfgs (F := Bits))) rows2_eq

/-- The second kernel's frame, from the same run read at the machine's float values. -/
theorem frame_kernel2 : Cert.quiescent_Kernel2 := fun m ρ _ => by
  rw [defs2_eq]
  exact (θ_run Cert.Kernel2Ideal.defs _ _).mono (fun _ h => h) (Cert.Kernel2Ideal.Gen.frame (F := Bits) m ρ)

/-- The second reference's frame. -/
theorem frame_reference2 : Cert.quiescent_Reference2Ideal := fun m ρ _ => Cert.Reference2Ideal.Ffn.frame m ρ

/-- The second kernel's result is the second reference's. -/
theorem value2 : Cert.algebraic_Kernel2Ideal_Reference2Ideal := fun m ρ m' ρ' _ ha => by
  have e : ∀ c, Cert.Reference2Ideal.Ffn.refArr m' c = Cert.Kernel2Ideal.Ffn.resultArr m c := fun c => by
    have h : Cert.Reference2Ideal.Ffn.args (StableHlo.launchContents m' c) = Cert.Kernel2Ideal.Ffn.launched m c := by
      obtain ⟨h0, h1, h2, h3, h4, h5, h6, h7, h8, h9, h10, h11⟩ := ha c
      exact Cert.Ffn.args_ext h0 h1 h2 h3 h4 h5 h6 h7 h8 h9 h10 h11
    unfold Cert.Reference2Ideal.Ffn.refArr Cert.Kernel2Ideal.Ffn.resultArr
    rw [h]
  exact ⟨Cert.Kernel2Ideal.Ffn.resultArr m,
    (θ_run Cert.Kernel2Ideal.defs _ _).mono (fun r h c => ⟨(h c).1.trans (Cert.Kernel2Ideal.Ffn.final_v11 m c), (h c).2⟩) (Cert.Kernel2Ideal.Value.run_blocks m ρ),
    (θ_run Cert.Reference2Ideal.defs _ _).mono (fun r h c => ⟨(h c).1.trans (e c), (h c).2⟩) (Cert.Reference2Ideal.Ffn.run_value m' ρ')⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Pre_finite.facts,
  frame_kernel, frame_kernelIdeal, fun m ρ _ => Cert.KernelIdeal.Ret.frame m ρ, frame_reference, fun m ρ _ => Cert.ReferenceIdeal.Ret.frame m ρ,
  frame_kernel2, frame_kernel2Ideal, frame_reference2,
  trivial, value (hPre_finite := Cert.Pre_finite.facts), trivial, value2⟩

end Cert.Proof

end
